-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S100000x128 : Shape := ⟨2, ![100000, 128]⟩
abbrev S1600000x4 : Shape := ⟨2, ![1600000, 4]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : FVec F S1600000x4 .f32) (main_arg2 : IVec S100000 32) (main_arg3 : FVec F S128x128 .f32) (main_arg4 : FVec F S128 .f32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 32 := constantI S_ 32 512#32
  let main_v2 : IVec S100000 32 := broadcastInDim S100000 ![] bcast_S_S100000 main_c_0
  let main_v3 : IVec S100000 1 := cmpi .slt main_arg2 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000x128 : Shape := ⟨2, ![100000, 128]⟩
abbrev S1600000x4 : Shape := ⟨2, ![1600000, 4]⟩
abbrev S100000 : Shape := ⟨1, ![100000]⟩
abbrev S128x128 : Shape := ⟨2, ![128, 128]⟩
abbrev S128 : Shape := ⟨1, ![128]⟩
abbrev S_ : Shape := ⟨0, ![]⟩
abbrev S100096 : Shape := ⟨1, ![100096]⟩
abbrev S1 : Shape := ⟨1, ![1]⟩
abbrev S12800000 : Shape := ⟨1, ![12800000]⟩
abbrev S32x65536 : Shape := ⟨2, ![32, 65536]⟩
abbrev S3128 : Shape := ⟨1, ![3128]⟩
abbrev S17408 : Shape := ⟨1, ![17408]⟩
abbrev S65536 : Shape := ⟨1, ![65536]⟩
abbrev S16 : Shape := ⟨1, ![16]⟩
abbrev S1x65536 : Shape := ⟨2, ![1, 65536]⟩
abbrev S1x128 : Shape := ⟨2, ![1, 128]⟩
abbrev S512x128 : Shape := ⟨2, ![512, 128]⟩
abbrev S32x512x128 : Shape := ⟨3, ![32, 512, 128]⟩

abbrev nBuf : Table → Nat
  | .hbm => 14
  | .local .tc .vmem => 4
  | .local .scVector .vmem => 3
  | _ => 0

abbrev bufTy : (tb : Table) → Fin (nBuf tb) → BufTy
  | .hbm, ⟨0, _⟩ => ⟨S100000x128, .f32⟩
  | .hbm, ⟨1, _⟩ => ⟨S1600000x4, .f32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S100096, .i32⟩
  | .hbm, ⟨7, _⟩ => ⟨S_, .i32⟩
  | .hbm, ⟨8, _⟩ => ⟨S1, .i32⟩
  | .hbm, ⟨9, _⟩ => ⟨S100096, .i32⟩
  | .hbm, ⟨10, _⟩ => ⟨S12800000, .f32⟩
  | .hbm, ⟨11, _⟩ => ⟨S32x65536, .f32⟩
  | .hbm, ⟨12, _⟩ => ⟨S1x128, .f32⟩
  | .hbm, ⟨13, _⟩ => ⟨S512x128, .f32⟩
  | .local .tc .vmem, ⟨0, _⟩ => ⟨S32x65536, .f32⟩
  | .local .tc .vmem, ⟨1, _⟩ => ⟨S128x128, .f32⟩
  | .local .tc .vmem, ⟨2, _⟩ => ⟨S1x128, .f32⟩
  | .local .tc .vmem, ⟨3, _⟩ => ⟨S512x128, .f32⟩
  | .local .scVector .vmem, ⟨0, _⟩ => ⟨S3128, .i32⟩
  | .local .scVector .vmem, ⟨1, _⟩ => ⟨S17408, .f32⟩
  | .local .scVector .vmem, ⟨2, _⟩ => ⟨S65536, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v2_scv : Ref sig .scVector := ⟨.hbm, 9, rfl⟩
abbrev main_v3_scv : Ref sig .scVector := ⟨.hbm, 10, rfl⟩
abbrev main_v4_scv : Ref sig .scVector := ⟨.hbm, 11, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev cc1_sem3_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  v2
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  let v3 : BitVec 32 := v2
  ![v3.toNat]
@[reducible] def k0_t1_loop : Scf.Loop 32 :=
  let c0_i32_2 : BitVec 32 := 0#32
  let c512_i32 : BitVec 32 := 512#32
  let v24 : BitVec 32 := Scalar.addi c0_i32_2 c512_i32
  let c1_i32 : BitVec 32 := 1#32
  ⟨c0_i32_2, v24, c1_i32⟩

def k0_chk1 (v28 : IVec S16 32) : Prop :=
  (∀ a x, ((![v28] : Fin 1 → IVec S16 32) a x).toNat < S65536.size a)
theorem k0_idx1_inb : ∀ (v28 : IVec S16 32) (k0_hw1 : k0_chk1 v28), ∀ a x, ((![v28] : Fin 1 → IVec S16 32) a x).toNat < S65536.size a := fun v28 k0_hw1 => k0_hw1

def k0_chk2 (v29 : IVec S16 32) : Prop :=
  (∀ a x, ((![v29] : Fin 1 → IVec S16 32) a x).toNat < S65536.size a)
theorem k0_idx2_inb : ∀ (v29 : IVec S16 32) (k0_hw2 : k0_chk2 v29), ∀ a x, ((![v29] : Fin 1 → IVec S16 32) a x).toNat < S65536.size a := fun v29 k0_hw2 => k0_hw2

def k0_chk3 (v30 : IVec S16 32) : Prop :=
  (∀ a x, ((![v30] : Fin 1 → IVec S16 32) a x).toNat < S65536.size a)
theorem k0_idx3_inb : ∀ (v30 : IVec S16 32) (k0_hw3 : k0_chk3 v30), ∀ a x, ((![v30] : Fin 1 → IVec S16 32) a x).toNat < S65536.size a := fun v30 k0_hw3 => k0_hw3

def k0_chk4 (v31 : IVec S16 32) : Prop :=
  (∀ a x, ((![v31] : Fin 1 → IVec S16 32) a x).toNat < S65536.size a)
theorem k0_idx4_inb : ∀ (v31 : IVec S16 32) (k0_hw4 : k0_chk4 v31), ∀ a x, ((![v31] : Fin 1 → IVec S16 32) a x).toNat < S65536.size a := fun v31 k0_hw4 => k0_hw4

def k0_chk5 (v32 : IVec S16 32) : Prop :=
  (∀ a x, ((![v32] : Fin 1 → IVec S16 32) a x).toNat < S65536.size a)
theorem k0_idx5_inb : ∀ (v32 : IVec S16 32) (k0_hw5 : k0_chk5 v32), ∀ a x, ((![v32] : Fin 1 → IVec S16 32) a x).toNat < S65536.size a := fun v32 k0_hw5 => k0_hw5

def k0_chk6 (v33 : IVec S16 32) : Prop :=
  (∀ a x, ((![v33] : Fin 1 → IVec S16 32) a x).toNat < S65536.size a)
theorem k0_idx6_inb : ∀ (v33 : IVec S16 32) (k0_hw6 : k0_chk6 v33), ∀ a x, ((![v33] : Fin 1 → IVec S16 32) a x).toNat < S65536.size a := fun v33 k0_hw6 => k0_hw6

def k0_chk7 (v34 : IVec S16 32) : Prop :=
  (∀ a x, ((![v34] : Fin 1 → IVec S16 32) a x).toNat < S65536.size a)
theorem k0_idx7_inb : ∀ (v34 : IVec S16 32) (k0_hw7 : k0_chk7 v34), ∀ a x, ((![v34] : Fin 1 → IVec S16 32) a x).toNat < S65536.size a := fun v34 k0_hw7 => k0_hw7

def k0_chk8 (v35 : IVec S16 32) : Prop :=
  (∀ a x, ((![v35] : Fin 1 → IVec S16 32) a x).toNat < S65536.size a)
theorem k0_idx8_inb : ∀ (v35 : IVec S16 32) (k0_hw8 : k0_chk8 v35), ∀ a x, ((![v35] : Fin 1 → IVec S16 32) a x).toNat < S65536.size a := fun v35 k0_hw8 => k0_hw8
@[reducible] def k0_t2_loop : Scf.Loop 32 :=
  let c0_i32_5 : BitVec 32 := 0#32
  let c23_i32 : BitVec 32 := 23#32
  let v25 : BitVec 32 := Scalar.addi c0_i32_5 c23_i32
  let c1_i32_6 : BitVec 32 := 1#32
  ⟨c0_i32_5, v25, c1_i32_6⟩
def k0_mult2 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  let v3 : BitVec 32 := v2
  let c0_i32_5 : BitVec 32 := 0#32
  let c1_i32_6 : BitVec 32 := 1#32
  let arg8 : BitVec 32 := Scf.iv c0_i32_5 c1_i32_6 k0_t2
  let c136_i32 : BitVec 32 := 136#32
  let v26 : BitVec 32 := Scalar.muli arg8 c136_i32
  let v27 : BitVec 32 := Scalar.addi v3 v26
  let c99864_i32 : BitVec 32 := 99864#32
  let v28 : BitVec 32 := Scalar.minsi v27 c99864_i32
  let c128_i32 : BitVec 32 := 128#32
  let v29 : BitVec 32 := Scalar.muli v28 c128_i32
  v29
def k0_off2 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  let v3 : BitVec 32 := v2
  let c0_i32_5 : BitVec 32 := 0#32
  let c1_i32_6 : BitVec 32 := 1#32
  let arg8 : BitVec 32 := Scf.iv c0_i32_5 c1_i32_6 k0_t2
  let c136_i32 : BitVec 32 := 136#32
  let v26 : BitVec 32 := Scalar.muli arg8 c136_i32
  let v27 : BitVec 32 := Scalar.addi v3 v26
  let c99864_i32 : BitVec 32 := 99864#32
  let v28 : BitVec 32 := Scalar.minsi v27 c99864_i32
  let c128_i32 : BitVec 32 := 128#32
  let v29 : BitVec 32 := Scalar.muli v28 c128_i32
  let v30 : BitVec 32 := v29
  ![v30.toNat]
@[reducible] def k0_t3_loop : Scf.Loop 32 :=
  let c0_i32_9 : BitVec 32 := 0#32
  let c136_i32_10 : BitVec 32 := 136#32
  let v31 : BitVec 32 := Scalar.addi c0_i32_9 c136_i32_10
  let c1_i32_11 : BitVec 32 := 1#32
  ⟨c0_i32_9, v31, c1_i32_11⟩

def k0_chk9 (v38 : IVec S16 32) : Prop :=
  (∀ a x, ((![v38] : Fin 1 → IVec S16 32) a x).toNat < S3128.size a)
theorem k0_idx9_inb : ∀ (v38 : IVec S16 32) (k0_hw9 : k0_chk9 v38), ∀ a x, ((![v38] : Fin 1 → IVec S16 32) a x).toNat < S3128.size a := fun v38 k0_hw9 => k0_hw9

def k0_chk10 (v44 : IVec S16 32) : Prop :=
  (∀ a x, ((![v44] : Fin 1 → IVec S16 32) a x).toNat < S17408.size a)
theorem k0_idx10_inb : ∀ (v44 : IVec S16 32) (k0_hw10 : k0_chk10 v44), ∀ a x, ((![v44] : Fin 1 → IVec S16 32) a x).toNat < S17408.size a := fun v44 k0_hw10 => k0_hw10

def k0_chk11 (v46 : IVec S16 32) : Prop :=
  (∀ a x, ((![v46] : Fin 1 → IVec S16 32) a x).toNat < S65536.size a)
theorem k0_idx11_inb : ∀ (v46 : IVec S16 32) (k0_hw11 : k0_chk11 v46), ∀ a x, ((![v46] : Fin 1 → IVec S16 32) a x).toNat < S65536.size a := fun v46 k0_hw11 => k0_hw11

def k0_chk12 (v47 : IVec S16 32) : Prop :=
  (∀ a x, ((![v47] : Fin 1 → IVec S16 32) a x).toNat < S17408.size a)
theorem k0_idx12_inb : ∀ (v47 : IVec S16 32) (k0_hw12 : k0_chk12 v47), ∀ a x, ((![v47] : Fin 1 → IVec S16 32) a x).toNat < S17408.size a := fun v47 k0_hw12 => k0_hw12

def k0_chk13 (v49 : IVec S16 32) : Prop :=
  (∀ a x, ((![v49] : Fin 1 → IVec S16 32) a x).toNat < S65536.size a)
theorem k0_idx13_inb : ∀ (v49 : IVec S16 32) (k0_hw13 : k0_chk13 v49), ∀ a x, ((![v49] : Fin 1 → IVec S16 32) a x).toNat < S65536.size a := fun v49 k0_hw13 => k0_hw13

def k0_chk14 (v50 : IVec S16 32) : Prop :=
  (∀ a x, ((![v50] : Fin 1 → IVec S16 32) a x).toNat < S17408.size a)
theorem k0_idx14_inb : ∀ (v50 : IVec S16 32) (k0_hw14 : k0_chk14 v50), ∀ a x, ((![v50] : Fin 1 → IVec S16 32) a x).toNat < S17408.size a := fun v50 k0_hw14 => k0_hw14

def k0_chk15 (v52 : IVec S16 32) : Prop :=
  (∀ a x, ((![v52] : Fin 1 → IVec S16 32) a x).toNat < S65536.size a)
theorem k0_idx15_inb : ∀ (v52 : IVec S16 32) (k0_hw15 : k0_chk15 v52), ∀ a x, ((![v52] : Fin 1 → IVec S16 32) a x).toNat < S65536.size a := fun v52 k0_hw15 => k0_hw15

def k0_chk16 (v53 : IVec S16 32) : Prop :=
  (∀ a x, ((![v53] : Fin 1 → IVec S16 32) a x).toNat < S17408.size a)
theorem k0_idx16_inb : ∀ (v53 : IVec S16 32) (k0_hw16 : k0_chk16 v53), ∀ a x, ((![v53] : Fin 1 → IVec S16 32) a x).toNat < S17408.size a := fun v53 k0_hw16 => k0_hw16

def k0_chk17 (v55 : IVec S16 32) : Prop :=
  (∀ a x, ((![v55] : Fin 1 → IVec S16 32) a x).toNat < S65536.size a)
theorem k0_idx17_inb : ∀ (v55 : IVec S16 32) (k0_hw17 : k0_chk17 v55), ∀ a x, ((![v55] : Fin 1 → IVec S16 32) a x).toNat < S65536.size a := fun v55 k0_hw17 => k0_hw17

def k0_chk18 (v56 : IVec S16 32) : Prop :=
  (∀ a x, ((![v56] : Fin 1 → IVec S16 32) a x).toNat < S17408.size a)
theorem k0_idx18_inb : ∀ (v56 : IVec S16 32) (k0_hw18 : k0_chk18 v56), ∀ a x, ((![v56] : Fin 1 → IVec S16 32) a x).toNat < S17408.size a := fun v56 k0_hw18 => k0_hw18

def k0_chk19 (v58 : IVec S16 32) : Prop :=
  (∀ a x, ((![v58] : Fin 1 → IVec S16 32) a x).toNat < S65536.size a)
theorem k0_idx19_inb : ∀ (v58 : IVec S16 32) (k0_hw19 : k0_chk19 v58), ∀ a x, ((![v58] : Fin 1 → IVec S16 32) a x).toNat < S65536.size a := fun v58 k0_hw19 => k0_hw19

def k0_chk20 (v59 : IVec S16 32) : Prop :=
  (∀ a x, ((![v59] : Fin 1 → IVec S16 32) a x).toNat < S17408.size a)
theorem k0_idx20_inb : ∀ (v59 : IVec S16 32) (k0_hw20 : k0_chk20 v59), ∀ a x, ((![v59] : Fin 1 → IVec S16 32) a x).toNat < S17408.size a := fun v59 k0_hw20 => k0_hw20

def k0_chk21 (v61 : IVec S16 32) : Prop :=
  (∀ a x, ((![v61] : Fin 1 → IVec S16 32) a x).toNat < S65536.size a)
theorem k0_idx21_inb : ∀ (v61 : IVec S16 32) (k0_hw21 : k0_chk21 v61), ∀ a x, ((![v61] : Fin 1 → IVec S16 32) a x).toNat < S65536.size a := fun v61 k0_hw21 => k0_hw21

def k0_chk22 (v62 : IVec S16 32) : Prop :=
  (∀ a x, ((![v62] : Fin 1 → IVec S16 32) a x).toNat < S17408.size a)
theorem k0_idx22_inb : ∀ (v62 : IVec S16 32) (k0_hw22 : k0_chk22 v62), ∀ a x, ((![v62] : Fin 1 → IVec S16 32) a x).toNat < S17408.size a := fun v62 k0_hw22 => k0_hw22

def k0_chk23 (v64 : IVec S16 32) : Prop :=
  (∀ a x, ((![v64] : Fin 1 → IVec S16 32) a x).toNat < S65536.size a)
theorem k0_idx23_inb : ∀ (v64 : IVec S16 32) (k0_hw23 : k0_chk23 v64), ∀ a x, ((![v64] : Fin 1 → IVec S16 32) a x).toNat < S65536.size a := fun v64 k0_hw23 => k0_hw23

def k0_chk24 (v65 : IVec S16 32) : Prop :=
  (∀ a x, ((![v65] : Fin 1 → IVec S16 32) a x).toNat < S17408.size a)
theorem k0_idx24_inb : ∀ (v65 : IVec S16 32) (k0_hw24 : k0_chk24 v65), ∀ a x, ((![v65] : Fin 1 → IVec S16 32) a x).toNat < S17408.size a := fun v65 k0_hw24 => k0_hw24

def k0_chk25 (v67 : IVec S16 32) : Prop :=
  (∀ a x, ((![v67] : Fin 1 → IVec S16 32) a x).toNat < S65536.size a)
theorem k0_idx25_inb : ∀ (v67 : IVec S16 32) (k0_hw25 : k0_chk25 v67), ∀ a x, ((![v67] : Fin 1 → IVec S16 32) a x).toNat < S65536.size a := fun v67 k0_hw25 => k0_hw25
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r2 : BitVec 32 := 0#32
  ![v1.toNat, 0]
abbrev grid1 : Pipeline.Grid := .none

abbrev stage1_0 : Fin 1 → Memref sig .tc .vmem S32x65536 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S1600000x4 : Shape := ⟨2, ![1600000, 4]⟩
abbrev S100000 : Shape := ⟨1, ![100000]⟩
abbrev S128x128 : Shape := ⟨2, ![128, 128]⟩
abbrev S128 : Shape := ⟨1, ![128]⟩
abbrev S_ : Shape := ⟨0, ![]⟩
abbrev S512x128 : Shape := ⟨2, ![512, 128]⟩
abbrev S100000x1 : Shape := ⟨2, ![100000, 1]⟩
abbrev S1x128 : Shape := ⟨2, ![1, 128]⟩

abbrev nBuf : Space → Nat
  | .hbm => 14
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x4, .f32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S512x128, .f32⟩
  | .hbm, ⟨7, _⟩ => ⟨S100000x1, .i32⟩
  | .hbm, ⟨8, _⟩ => ⟨S512x128, .f32⟩
  | .hbm, ⟨9, _⟩ => ⟨S128x128, .f32⟩
  | .hbm, ⟨10, _⟩ => ⟨S512x128, .f32⟩
  | .hbm, ⟨11, _⟩ => ⟨S1x128, .f32⟩
  | .hbm, ⟨12, _⟩ => ⟨S512x128, .f32⟩
  | .hbm, ⟨13, _⟩ => ⟨S512x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Segments.lean ====
/-
  Arithmetic of one tile's running sums, free of any program: what a masked indexed store of sixteen consecutive words does to a
  vector, eight of them in a row on the 128 words of one group's line, and the sums a tile has after its first `n` node rows
  (`cell`). Generic in the float instance.
-/
module

public import Idealize.ShloMosaic.Lib.WordArith
public import Idealize.ShloMosaic.Lib.Scf
public import Idealize.ShloMosaic.Lib.Pointwise.ElementwiseCore

@[expose] public section

noncomputable section

namespace Cert.Proof.Segments

open Idealize.ShloMosaic

variable {F : FTy → Type} [FloatOps F]

/-- A vector of `n` words. -/
abbrev Line (n : Nat) : Shape := ⟨1, ![n]⟩

/-- Lane `x` of a vector of sixteen. -/
abbrev lane (x : Fin 16) : (Line 16).Idx := Shape.ofLane (d := ![16]) x

/-! ## One indexed store -/

/-- A lane's step in the store's fold: lane `k` of `v` set down (or added) where its index says, if the mask has the lane. -/
def laneStep {n : Nat} (idxs : Fin 1 → IVec (Line 16) 32) (v : Vec F (Line 16) .f32) (mask : IVec (Line 16) 1) (add : Bool)
    (h : ∀ a x, (idxs a x).toNat < (Line n).size a) (g : Vec F (Line n) .f32) (k : Fin 16) : Vec F (Line n) .f32 :=
  if mask (lane k) = 1 then
    fun j => if (∀ a, (j a).val = (idxAt idxs h (lane k) a).val) then
      (if add then FloatOps.idxAddf (g (idxAt idxs h (lane k))) (v (lane k)) else v (lane k)) else g j
  else g

theorem storeIdx_fold {n : Nat} (f : Vec F (Line n) .f32) (idxs : Fin 1 → IVec (Line 16) 32) (v : Vec F (Line 16) .f32) (mask : IVec (Line 16) 1)
    (add : Bool) (h : ∀ a x, (idxs a x).toNat < (Line n).size a) :
    storeIdx (s := Line n) (d := ![16]) f idxs v mask add h = (List.finRange 16).foldl (laneStep idxs v mask add h) f := rfl

/-- The lanes of a list, none naming word `j`, leave word `j` as it was. -/
theorem foldl_miss {n : Nat} (idxs : Fin 1 → IVec (Line 16) 32) (v : Vec F (Line 16) .f32) (mask : IVec (Line 16) 1) (add : Bool)
    (h : ∀ a x, (idxs a x).toNat < (Line n).size a) (j : (Line n).Idx) :
    ∀ (l : List (Fin 16)) (g : Vec F (Line n) .f32),
      (∀ k ∈ l, (j 0).val ≠ (idxs 0 (lane k)).toNat) → l.foldl (laneStep idxs v mask add h) g j = g j
  | [], _, _ => rfl
  | k :: l, g, hm => by
    rw [List.foldl_cons, foldl_miss idxs v mask add h j l _ fun k' hk' => hm k' (List.mem_cons_of_mem _ hk')]
    unfold laneStep
    by_cases hk : mask (lane k) = 1
    · rw [if_pos hk]
      exact if_neg fun hall => hm k (List.mem_cons_self ..) (hall 0)
    · rw [if_neg hk]

/-- The lanes of a list, exactly one of them (`k₀`, in the mask) naming word `j`: word `j` takes that lane. -/
theorem foldl_hit {n : Nat} (idxs : Fin 1 → IVec (Line 16) 32) (v : Vec F (Line 16) .f32) (mask : IVec (Line 16) 1) (add : Bool)
    (h : ∀ a x, (idxs a x).toNat < (Line n).size a) (j : (Line n).Idx) (k₀ : Fin 16)
    (hj : (j 0).val = (idxs 0 (lane k₀)).toNat) (hmask : mask (lane k₀) = 1)
    (hinj : ∀ k, (j 0).val = (idxs 0 (lane k)).toNat → k = k₀) :
    ∀ (l : List (Fin 16)) (g : Vec F (Line n) .f32), l.Nodup → k₀ ∈ l →
      l.foldl (laneStep idxs v mask add h) g j
        = if add then FloatOps.idxAddf (g j) (v (lane k₀)) else v (lane k₀)
  | [], _, _, hk => absurd hk (List.not_mem_nil)
  | k :: l, g, hn, hk => by
    rw [List.foldl_cons]
    have hjx : idxAt idxs h (lane k₀) = j := by
      funext a; match a with | 0 => exact Fin.ext hj.symm
    rcases List.mem_cons.mp hk with rfl | hl
    · rw [foldl_miss idxs v mask add h j l _ fun k' hk' e => (List.nodup_cons.mp hn).1 (hinj k' e ▸ hk')]
      unfold laneStep
      rw [if_pos hmask, hjx]
      exact if_pos fun _ => rfl
    · have hne : k ≠ k₀ := fun e => (List.nodup_cons.mp hn).1 (e ▸ hl)
      rw [foldl_hit idxs v mask add h j k₀ hj hmask hinj l _ (List.nodup_cons.mp hn).2 hl,
        show laneStep idxs v mask add h g k j = g j from foldl_miss idxs v mask add h j [k] g fun k' hk' e => by
          rw [List.mem_singleton] at hk'; subst hk'; exact hne (hinj k' e)]

/-- The words `j` whose line is `g`, in the first `n` columns, updated by `op` with `R`'s column, when `on`. -/
def upd (f : Vec F (Line 65536) .f32) (on : Prop) [Decidable on] (g : ℕ) (R : ℕ → F .f32) (op : F .f32 → F .f32 → F .f32) (n : ℕ) :
    Vec F (Line 65536) .f32 :=
  fun j => if on ∧ (j 0).val / 128 = g ∧ (j 0).val % 128 < n then op (f j) (R ((j 0).val % 128)) else f j

theorem upd_zero (f : Vec F (Line 65536) .f32) (on : Prop) [Decidable on] (g : ℕ) (R : ℕ → F .f32) (op : F .f32 → F .f32 → F .f32) :
    upd f on g R op 0 = f := by
  funext j; unfold upd; rw [if_neg]; omega

/-- The store of columns `16 k … 16 k + 15` of line `g`, after those of the columns before. -/
theorem storeIdx_upd (f : Vec F (Line 65536) .f32) (on : Prop) [Decidable on] (g : ℕ) (R : ℕ → F .f32) (k : ℕ) (hk : k < 8)
    (w : IVec (Line 16) 32) (hw : ∀ x : Fin 16, (w (lane x)).toNat = 128 * g + 16 * k + x.val)
    (v : Vec F (Line 16) .f32) (hv : ∀ x : Fin 16, v (lane x) = R (16 * k + x.val))
    (mask : IVec (Line 16) 1) (hmask : ∀ x : Fin 16, mask (lane x) = 1 ↔ on) (add : Bool)
    (op : F .f32 → F .f32 → F .f32) (hop : ∀ a b, op a b = if add then FloatOps.idxAddf a b else b)
    (h : ∀ a x, ((![w] : Fin 1 → IVec (Line 16) 32) a x).toNat < (Line 65536).size a) :
    storeIdx (s := Line 65536) (d := ![16]) (upd f on g R op (16 * k)) ![w] v mask add h
      = upd f on g R op (16 * (k + 1)) := by
  rw [storeIdx_fold]
  funext j
  by_cases hon : on
  · by_cases hj : (j 0).val / 128 = g ∧ 16 * k ≤ (j 0).val % 128 ∧ (j 0).val % 128 < 16 * (k + 1)
    · obtain ⟨h1, h2, h3⟩ := hj
      have hx : (j 0).val % 128 - 16 * k < 16 := by omega
      rw [foldl_hit ![w] v mask add h j ⟨_, hx⟩ (by show _ = (w _).toNat; rw [hw]; simp only; omega) (by exact (hmask _).mpr hon)
        (fun k' hk' => by
          change _ = (w _).toNat at hk'; rw [hw] at hk'; apply Fin.ext; simp only; omega) _ _ (List.nodup_finRange 16) (List.mem_finRange _)]
      rw [hv]
      unfold upd
      rw [if_neg (c := on ∧ (j 0).val / 128 = g ∧ (j 0).val % 128 < 16 * k) (by omega),
        if_pos (c := on ∧ (j 0).val / 128 = g ∧ (j 0).val % 128 < 16 * (k + 1)) ⟨hon, h1, h3⟩, hop]
      simp only
      rw [show 16 * k + ((j 0).val % 128 - 16 * k) = (j 0).val % 128 by omega]
    · rw [foldl_miss ![w] v mask add h j _ _ fun k' _ e => hj (by
        change _ = (w _).toNat at e; rw [hw] at e
        have := k'.isLt
        refine ⟨?_, ?_, ?_⟩ <;> omega)]
      unfold upd
      by_cases h0 : on ∧ (j 0).val / 128 = g ∧ (j 0).val % 128 < 16 * k
      · rw [if_pos h0, if_pos ⟨h0.1, h0.2.1, by omega⟩]
      · rw [if_neg h0, if_neg]
        rintro ⟨_, h1, h3⟩
        exact hj ⟨h1, by by_contra hc; exact h0 ⟨hon, h1, by omega⟩, h3⟩
  · have hs : ∀ (l : List (Fin 16)) (g' : Vec F (Line 65536) .f32), l.foldl (laneStep ![w] v mask add h) g' = g' := by
      intro l
      induction l with
      | nil => intro _; rfl
      | cons a l ih =>
        intro g'
        rw [List.foldl_cons, ih]
        unfold laneStep
        rw [if_neg]
        rw [hmask]; exact hon
    rw [hs]
    unfold upd
    rw [if_neg (fun h => hon h.1), if_neg (fun h => hon h.1)]

/-! ## The zeroing -/

/-- The first `n` words zero, the rest as in `f`. -/
def zeroed (f : Vec F (Line 65536) .f32) (z : F .f32) (n : ℕ) : Vec F (Line 65536) .f32 := fun j => if (j 0).val < n then z else f j

theorem zeroed_zero (f : Vec F (Line 65536) .f32) (z : F .f32) : zeroed f z 0 = f := by
  funext j; unfold zeroed; rw [if_neg (by omega)]

theorem zeroed_step (f : Vec F (Line 65536) .f32) (z : F .f32) (t : ℕ) :
    upd (zeroed f z (128 * t)) True t (fun _ => z) (fun _ y => y) 128 = zeroed f z (128 * (t + 1)) := by
  funext j; unfold upd zeroed
  by_cases h : (j 0).val < 128 * t
  · rw [if_neg (by omega), if_pos h, if_pos (by omega)]
  · by_cases h' : (j 0).val < 128 * (t + 1)
    · rw [if_pos ⟨trivial, by omega, by omega⟩, if_pos h']
    · rw [if_neg (by omega), if_neg h, if_neg h']

theorem zeroed_all (f : Vec F (Line 65536) .f32) (z : F .f32) : zeroed f z 65536 = fun _ => z := by
  funext j; unfold zeroed; exact if_pos (j 0).isLt

/-! ## The sums -/

/-- Word `p` of the sums (group `p / 128`, column `p % 128`) after the first `n` of the node rows from `lo` on: the rows of that group
    added one after another onto zero. -/
def cell (ids : ℕ → ℕ) (x : ℕ → F .f32) (lo : ℕ) : ℕ → ℕ → F .f32
  | 0, _ => Scalar.ofBits .f32 0x00000000#32
  | n + 1, p => if ids (lo + n) = p / 128 then FloatOps.idxAddf (cell ids x lo n p) (x (128 * (lo + n) + p % 128)) else cell ids x lo n p

/-- The sums as a vector of 65536 words. -/
def sums (ids : ℕ → ℕ) (x : ℕ → F .f32) (lo n : ℕ) : Vec F (Line 65536) .f32 := fun j => cell ids x lo n (j 0).val

theorem sums_zero (ids : ℕ → ℕ) (x : ℕ → F .f32) (lo : ℕ) : sums ids x lo 0 = fun _ => Scalar.ofBits .f32 0x00000000#32 := rfl

/-- One more row: its group's line has the row added. -/
theorem sums_step (ids : ℕ → ℕ) (x : ℕ → F .f32) (lo n : ℕ) (on : Prop) [Decidable on] (hon : on) :
    upd (sums ids x lo n) on (ids (lo + n)) (fun c => x (128 * (lo + n) + c)) FloatOps.idxAddf 128 = sums ids x lo (n + 1) := by
  funext j; unfold upd sums
  rw [show cell ids x lo (n + 1) (j 0).val = if ids (lo + n) = (j 0).val / 128 then FloatOps.idxAddf (cell ids x lo n (j 0).val) (x (128 * (lo + n) + (j 0).val % 128))
    else cell ids x lo n (j 0).val from rfl]
  by_cases h : ids (lo + n) = (j 0).val / 128
  · rw [if_pos ⟨hon, h.symm, Nat.mod_lt _ (by omega)⟩, if_pos h]
  · rw [if_neg (fun h' => h h'.2.1.symm), if_neg h]

/-- A row outside the tile's range changes nothing. -/
theorem sums_skip (f : Vec F (Line 65536) .f32) (on : Prop) [Decidable on] (hon : ¬ on) (g : ℕ) (R : ℕ → F .f32) (op : F .f32 → F .f32 → F .f32) (n : ℕ) :
    upd f on g R op n = f := by
  funext j; unfold upd; exact if_neg fun h => hon h.1

/-! ## Words -/

/-- The rows done when row `r` of block `b` is next, counted from the tile's first row `lo`. -/
def rowsDone (lo b r : ℕ) : ℕ := max (min (lo + 136 * b) 99864 + r) (lo + 136 * b) - lo

theorem iota_toNat (h : (Line 16).Iotas .scVector 32 [0]) (x : Fin 16) :
    (iota .scVector (Line 16) 32 [0] h (lane x)).toNat = x.val := by
  unfold iota
  simp only [List.foldl_cons, List.foldl_nil, Nat.zero_mul, Nat.zero_add, BitVec.toNat_ofNat]
  show x.val % 4294967296 = x.val
  exact Nat.mod_eq_of_lt (by have := x.isLt; omega)

theorem iv_toNat (k : ℕ) (hk : k < 512) : (Scf.iv 0#32 1#32 k).toNat = k := by
  unfold Scf.iv
  simp; omega

end Cert.Proof.Segments

end
-- ==== Proof.Padded.lean ====
/-
  The ids' array as the tiles read it: the launch's ids written into an array of zeroes from its start.
-/
module

public import proofs.«01_k».proof.Proof.Segments
public import Idealize.ShloMosaic.Lib.Routing.OpsSet

@[expose] public section

namespace Cert.Proof.Segments

open Idealize.ShloMosaic

/-- Where word `j` of an update starting at zero lands: at word `j`. -/
theorem lands_at {n k : ℕ} (d : ScatterDims (Line n) (Line 1) (Line k)) (hu : d.updateWindowDims = [0]) (hi : d.insertedWindowDims = [])
    (hs : d.scatterDimsToOperandDims = [0]) (hkn : k ≤ n) (idx : IVec (Line 1) 32) (hidx : ∀ i, idx i = 0#32) (j : (Line k).Idx) (p : (Line n).Idx) :
    d.resultIdx? j idx = some p ↔ (j 0).val = (p 0).val := by
  have hk : d.sKept = [0] := by
    show (Line n).kept d.insertedWindowDims = _
    rw [hi]; rfl
  have hw : d.window j 0 = (j 0).val := by
    unfold ScatterDims.window
    rw [dif_pos (by rw [hk]; exact List.mem_singleton.2 rfl)]
    exact congrArg (fun a : Fin 1 => (j a).val) (Subsingleton.elim _ _)
  have hst : d.start j idx 0 = 0 := by
    unfold ScatterDims.start
    rw [dif_pos (by rw [hs]; exact List.mem_singleton.2 rfl), hidx]; rfl
  have hj : (j 0).val < k := (j 0).isLt
  unfold ScatterDims.resultIdx?
  have hin : ∀ a, 0 ≤ d.start j idx a + d.window j a ∧ d.start j idx a + d.window j a < (Line n).size a := by
    intro a
    obtain rfl : a = (0 : Fin 1) := Subsingleton.elim (α := Fin 1) _ _
    rw [hst, hw]
    show _ ∧ _ < ((n : ℕ) : Int)
    omega
  rw [dif_pos hin]
  constructor
  · intro e
    have e0 := congrArg Fin.val (congrFun (Option.some.inj e) 0)
    change (d.start j idx 0 + (d.window j 0 : Int)).toNat = (p 0).val at e0
    rw [hst, hw] at e0; omega
  · intro e
    refine congrArg some (funext fun a => Fin.ext ?_)
    obtain rfl : a = (0 : Fin 1) := Subsingleton.elim (α := Fin 1) _ _
    show (d.start j idx 0 + (d.window j 0 : Int)).toNat = (p 0).val
    rw [hst, hw]; omega

/-- A line written into a longer one from its start: the line, then what was there. -/
theorem written_from_start {α : Type} {n k : ℕ} (d : ScatterDims (Line n) (Line 1) (Line k)) (hu : d.updateWindowDims = [0]) (hi : d.insertedWindowDims = [])
    (hs : d.scatterDimsToOperandDims = [0]) (hkn : k ≤ n) (x : (Line n).Idx → α) (idx : IVec (Line 1) 32) (hidx : ∀ i, idx i = 0#32)
    (upd : (Line k).Idx → α) (p : (Line n).Idx) :
    Host.scatter d (fun _ b => b) x idx upd p = if h : (p 0).val < k then upd (fun a => match a with | ⟨0, _⟩ => ⟨(p 0).val, h⟩) else x p := by
  split
  · rename_i h
    refine Routing.scatter_set_hit d x idx upd p _ (fun j hj => ?_) (fun a => match a with | ⟨0, _⟩ => ⟨(p 0).val, h⟩) ?_
    · have e := (lands_at d hu hi hs hkn idx hidx j p).1 hj
      refine congrArg upd (funext fun a => Fin.ext ?_)
      obtain rfl : a = (0 : Fin 1) := Subsingleton.elim (α := Fin 1) _ _
      exact e
    · exact (lands_at d hu hi hs hkn idx hidx _ p).2 rfl
  · rename_i h
    refine Routing.scatter_set_miss d x idx upd p fun j hj => h ?_
    rw [← (lands_at d hu hi hs hkn idx hidx j p).1 hj]
    exact (j 0).isLt

end Cert.Proof.Segments
-- ==== Proof.Range.lean ====
/-
  The precondition, read: every group id is below 512.
-/
module

public import proofs.«01_k».proof.Defs
public import proofs.«01_k».proof.Proof.Gen.Pre_ids_in_range
public import Idealize.ShloMosaic.Lib.ReduceAll

@[expose] public section

namespace Cert.Proof

open Idealize.ShloMosaic

/-- A word between 0 and 511 as signed comparisons have it. -/
theorem word_in_range (v : BitVec 32) (e : IntOp.andi (IntOp.cmpi .sge v 0#32) (IntOp.cmpi .slt v 512#32) = 1#1) : v.toNat < 512 := by
  have both : ∀ p q : Bool, IntOp.andi (BitVec.ofBool p) (BitVec.ofBool q) = 1#1 → p = true ∧ q = true := by decide
  obtain ⟨h0, h1⟩ := both _ _ e
  simp only [BitVec.sle_eq_decide, BitVec.slt_eq_decide, decide_eq_true_eq, BitVec.toInt_eq_toNat_cond, BitVec.toNat_ofNat, Nat.reducePow, Nat.reduceMod] at h0 h1
  omega

theorem ids_in_range {F : FTy → Type} [FloatOps F] (x : FVec F ⟨2, ![100000, 128]⟩ .f32) (e : FVec F ⟨2, ![1600000, 4]⟩ .f32) (ids : IVec ⟨1, ![100000]⟩ 32)
    (w : FVec F ⟨2, ![128, 128]⟩ .f32) (b : FVec F ⟨1, ![128]⟩ .f32) (h : Cert.Pre_ids_in_range.fn x e ids w b = fun _ => 1#1)
    (i : (⟨1, ![100000]⟩ : Shape).Idx) : (ids i).toNat < 512 := by
  have h0 := congrFun h (fun a => a.elim0)
  haveI : Subsingleton Cert.Pre_ids_in_range.S_.Idx := ⟨fun a b => funext fun k => k.elim0⟩
  exact word_in_range _ (Host.reduce_andi_all _ _ _ _ _ h0 i)

end Cert.Proof

end
-- ==== Proof.TripsIdeal.lean ====
/-
  One trip of each of the tile's inner loops, by value: the trip that zeroes one group's line of the running sums, and the trip that adds
  one node row, sixteen words at a time, to its group's line. Generic in the float instance.
-/
module

public import proofs.«01_k».proof.Defs
public import proofs.«01_k».proof.Proof.Segments
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.OnIdeal

open Cert.KernelIdeal Cert.KernelIdeal.Gen
open Cert.Proof.Segments

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The vocabulary shared by the run's modules -/

abbrev 𝒱₀ : Variants := Variants.none

/-- The handshakes' rounds, the pipeline's rounds and the transfers' counters. -/
abbrev UH : Type := URounds (GSem nD τ sig) ℕ
abbrev UP : Type := URounds (GSem nD τ sig) Unit
abbrev UU : Type := UH × (UP × Counters)

/-- The tile a program's coordinates name. -/
abbrev cV (L : grid0.Coords) : Fin τ.nSC := (L 0).castLE hcore0
abbrev jV (L : grid0.Coords) : Fin τ.nSub := (L 1).castLE hsub0

local notation "idsM" => (Memref.whole Cert.KernelIdeal.main_v2_scv : Memref Cert.KernelIdeal.sig Kind.scVector Space.hbm Cert.KernelIdeal.S100096 EltTy.i32)
local notation "rowsM" => (Memref.whole Cert.KernelIdeal.main_v3_scv : Memref Cert.KernelIdeal.sig Kind.scVector Space.hbm Cert.KernelIdeal.S12800000 EltTy.f32)
local notation "partsM" => (Memref.whole Cert.KernelIdeal.main_v4_scv : Memref Cert.KernelIdeal.sig Kind.scVector Space.hbm Cert.KernelIdeal.S32x65536 EltTy.f32)
local notation "idsS" => (Memref.whole Cert.KernelIdeal.cc0_scratch0 : Memref Cert.KernelIdeal.sig Kind.scVector Space.vmem Cert.KernelIdeal.S3128 EltTy.i32)
local notation "rowsS" => (Memref.whole Cert.KernelIdeal.cc0_scratch1 : Memref Cert.KernelIdeal.sig Kind.scVector Space.vmem Cert.KernelIdeal.S17408 EltTy.f32)
local notation "accS" => (Memref.whole Cert.KernelIdeal.cc0_scratch2 : Memref Cert.KernelIdeal.sig Kind.scVector Space.vmem Cert.KernelIdeal.S65536 EltTy.f32)

variable {F : FTy → Type} [FloatOps F]

local notation "𝕄" => MT nD τ sig (HIx 1) (Elt F) ℕ UU ℕ

/-- The tile's thread. -/
abbrev thr (d : Dev nD) (L : grid0.Coords) := V (nD := nD) d (cV L) (jV L)

/-- The tile's three scratch arrays, held whole. -/
abbrev idsPts (d : Dev nD) (L : grid0.Coords) (f : Vec F (Line 3128) .i32) : sProp 𝕄 :=
  iprop(((idsS).view.loc (thr d L)) ↦[Finset.univ]{fullShare} (f : Buf (Elt F) ((idsS).view.loc (thr d L))))
abbrev rowsPts (d : Dev nD) (L : grid0.Coords) (f : Vec F (Line 17408) .f32) : sProp 𝕄 :=
  iprop(((rowsS).view.loc (thr d L)) ↦[Finset.univ]{fullShare} (f : Buf (Elt F) ((rowsS).view.loc (thr d L))))
abbrev accPts (d : Dev nD) (L : grid0.Coords) (f : Vec F (Line 65536) .f32) : sProp 𝕄 :=
  iprop(((accS).view.loc (thr d L)) ↦[Finset.univ]{fullShare} (f : Buf (Elt F) ((accS).view.loc (thr d L))))

/-! ## Words -/

theorem addi_toNat (a b : IVec (Line 16) 32) (x : (Line 16).Idx) (h : (a x).toNat + (b x).toNat < 2 ^ 32) :
    (addi a b x).toNat = (a x).toNat + (b x).toNat := by
  show (a x + b x).toNat = _
  rw [BitVec.toNat_add, Nat.mod_eq_of_lt h]

/-- Every index of a vector of sixteen is a lane. -/
theorem exists_lane (x : (Line 16).Idx) : ∃ k : Fin 16, x = lane k :=
  ⟨x 0, funext fun a => match a with | ⟨0, _⟩ => rfl⟩

/-- An index vector whose lanes are below `n` passes the check into an array of `n` words. -/
theorem inb_of_lane {n : ℕ} (w : IVec (Line 16) 32) (hw : ∀ k : Fin 16, (w (lane k)).toNat < n) :
    ∀ (a : Fin 1) (x : (Line 16).Idx), ((![w] : Fin 1 → IVec (Line 16) 32) a x).toNat < (Line n).size a := by
  intro a x
  obtain ⟨k, rfl⟩ := exists_lane x
  match a with
  | ⟨0, _⟩ => exact hw k

/-- Column block `j`: lane `x` is column `16 j + x`. -/
theorem cols_toNat (h : (Line 16).Iotas .scVector 32 [0]) (j : ℕ) (hj : j < 8) (x : Fin 16) :
    (addi (iota .scVector (Line 16) 32 [0] h) (broadcast (Line 16) (BitVec.ofNat 32 (16 * j))) (lane x)).toNat = 16 * j + x.val := by
  have hb : (broadcast (Line 16) (BitVec.ofNat 32 (16 * j)) (lane x)).toNat = 16 * j := by
    show (BitVec.ofNat 32 (16 * j)).toNat = _
    rw [BitVec.toNat_ofNat]; exact Nat.mod_eq_of_lt (by omega)
  rw [addi_toNat _ _ _ (by rw [iota_toNat, hb]; have := x.isLt; omega), iota_toNat, hb, Nat.add_comm]

theorem pay4_toNat (x : Fin 16) : (k0_pay4 (lane x)).toNat = 16 * 0 + x.val := cols_toNat _ 0 (by decide) x
theorem pay5_toNat (x : Fin 16) : (k0_pay5 (lane x)).toNat = 16 * 1 + x.val := cols_toNat _ 1 (by decide) x
theorem pay6_toNat (x : Fin 16) : (k0_pay6 (lane x)).toNat = 16 * 2 + x.val := cols_toNat _ 2 (by decide) x
theorem pay7_toNat (x : Fin 16) : (k0_pay7 (lane x)).toNat = 16 * 3 + x.val := cols_toNat _ 3 (by decide) x
theorem pay8_toNat (x : Fin 16) : (k0_pay8 (lane x)).toNat = 16 * 4 + x.val := cols_toNat _ 4 (by decide) x
theorem pay9_toNat (x : Fin 16) : (k0_pay9 (lane x)).toNat = 16 * 5 + x.val := cols_toNat _ 5 (by decide) x
theorem pay10_toNat (x : Fin 16) : (k0_pay10 (lane x)).toNat = 16 * 6 + x.val := cols_toNat _ 6 (by decide) x
theorem pay11_toNat (x : Fin 16) : (k0_pay11 (lane x)).toNat = 16 * 7 + x.val := cols_toNat _ 7 (by decide) x

/-- A line's first word `128 g` plus a column block: lane `x` is word `128 g + 16 j + x`. -/
theorem at_toNat (a b : IVec (Line 16) 32) (g j : ℕ) (hg : g < 100000) (hj : j < 8) (ha : ∀ x : Fin 16, (a (lane x)).toNat = 128 * g)
    (hb : ∀ x : Fin 16, (b (lane x)).toNat = 16 * j + x.val) (x : Fin 16) : (addi a b (lane x)).toNat = 128 * g + 16 * j + x.val := by
  rw [addi_toNat _ _ _ (by rw [ha, hb]; have := x.isLt; omega), ha, hb]; omega

theorem mul128 (v : BitVec 32) (h : v.toNat < 100000) : (v * 128#32).toNat = 128 * v.toNat := by
  rw [BitVec.toNat_mul]; show v.toNat * 128 % 4294967296 = _; omega

/-- Trip `t` of the zeroing starts at word `128 t`. -/
theorem pay13_toNat (t : Fin k0_t1_loop.trips) (x : Fin 16) : (k0_pay13 t (lane x)).toNat = 128 * t.val := by
  have ht : t.val < 512 := lt_of_lt_of_le t.isLt k0_t1_abs.2.1
  show (Scf.iv 0#32 1#32 t.val * 128#32).toNat = _
  rw [mul128 _ (by rw [iv_toNat _ ht]; omega), iv_toNat _ ht]

/-- Row `t` of a fetched block starts at word `128 t`. -/
theorem pay3_toNat (t : Fin k0_t3_loop.trips) (x : Fin 16) : (k0_pay3 0#32 1#32 t (lane x)).toNat = 128 * t.val := by
  have ht : t.val < 136 := lt_of_lt_of_le t.isLt k0_t3_abs.2.1
  show (Scf.iv 0#32 1#32 t.val * 128#32).toNat = _
  rw [mul128 _ (by rw [iv_toNat _ (by omega)]; omega), iv_toNat _ (by omega)]

/-- A group's line starts at word `128 g`. -/
theorem pay2_toNat (v : Vec F S16 .i32) (g : ℕ) (hg : g < 512) (hv : ∀ x : Fin 16, (v (lane x) : BitVec 32).toNat = g) (x : Fin 16) :
    (k0_pay2 (F := F) v (lane x)).toNat = 128 * g := by
  show ((v (lane x) : BitVec 32) * 128#32).toNat = _
  rw [mul128 _ (by rw [hv]; omega), hv]

/-! ## The three accesses -/

theorem wp_load_ids {α : Type} (d : Dev nD) (L : grid0.Coords) (f : Vec F (Line 3128) .i32) (w : IVec (Line 16) 32)
    (h : ∀ (a : Fin 1) (x : (Line 16).Idx), ((![w] : Fin 1 → IVec (Line 16) 32) a x).toNat < S3128.size a) (hl)
    (k : Vec F S16 .i32 → Prog (TpuEff nD τ sig (Elt F) Λ₀ (thr d L).2) α) (Q : α → sProp 𝕄) :
    idsPts d L f ⊢ (idsPts d L f -∗ wp frame (wpE (defs₀ (F := F)) 𝒱₀ (thr d L) none) Set.univ (k (loadIdx (s := Line 3128) f ![w] h)) Q) -∗
      wp frame (wpE (defs₀ (F := F)) 𝒱₀ (thr d L) none) Set.univ (SparseCore.vectorLoadIdx idsS ![w] h hl >>= k) Q := by
  have hr := SparseCore.wp_vectorLoadIdx (defs := defs₀ (F := F)) 𝒱₀ (thr d L) none Set.univ (Λ := Λ₀) (base := idsS) (idxs := ![w]) (h := h) (hl := hl) (S := Finset.univ)
    (q := fullShare) (f := f) (Finset.subset_univ _) (k := k) (Q := Q)
  rw [Memref.read_access_whole] at hr
  exact hr

theorem wp_load_rows {α : Type} (d : Dev nD) (L : grid0.Coords) (f : Vec F (Line 17408) .f32) (w : IVec (Line 16) 32)
    (h : ∀ (a : Fin 1) (x : (Line 16).Idx), ((![w] : Fin 1 → IVec (Line 16) 32) a x).toNat < S17408.size a) (hl)
    (k : Vec F S16 .f32 → Prog (TpuEff nD τ sig (Elt F) Λ₀ (thr d L).2) α) (Q : α → sProp 𝕄) :
    rowsPts d L f ⊢ (rowsPts d L f -∗ wp frame (wpE (defs₀ (F := F)) 𝒱₀ (thr d L) none) Set.univ (k (loadIdx (s := Line 17408) f ![w] h)) Q) -∗
      wp frame (wpE (defs₀ (F := F)) 𝒱₀ (thr d L) none) Set.univ (SparseCore.vectorLoadIdx rowsS ![w] h hl >>= k) Q := by
  have hr := SparseCore.wp_vectorLoadIdx (defs := defs₀ (F := F)) 𝒱₀ (thr d L) none Set.univ (Λ := Λ₀) (base := rowsS) (idxs := ![w]) (h := h) (hl := hl) (S := Finset.univ)
    (q := fullShare) (f := f) (Finset.subset_univ _) (k := k) (Q := Q)
  rw [Memref.read_access_whole] at hr
  exact hr

theorem wp_store_acc {α : Type} (d : Dev nD) (L : grid0.Coords) (f : Vec F (Line 65536) .f32) (w : IVec (Line 16) 32) (v : Vec F S16 .f32) (mask : IVec S16 1) (add : Bool)
    (h : ∀ (a : Fin 1) (x : (Line 16).Idx), ((![w] : Fin 1 → IVec (Line 16) 32) a x).toNat < S65536.size a) (hs)
    (k : PUnit → Prog (TpuEff nD τ sig (Elt F) Λ₀ (thr d L).2) α) (Q : α → sProp 𝕄) :
    accPts d L f ⊢ (accPts d L (storeIdx (s := Line 65536) (d := ![16]) f ![w] v mask add h) -∗ wp frame (wpE (defs₀ (F := F)) 𝒱₀ (thr d L) none) Set.univ (k ⟨⟩) Q) -∗
      wp frame (wpE (defs₀ (F := F)) 𝒱₀ (thr d L) none) Set.univ (SparseCore.vectorStoreIdx accS ![w] v mask add h hs >>= k) Q := by
  have hr := SparseCore.wp_vectorStoreIdx (defs := defs₀ (F := F)) 𝒱₀ (thr d L) none Set.univ (Λ := Λ₀) (base := accS) (idxs := ![w]) (v := v) (mask := mask) (add := add) (h := h) (hs := hs)
    (f := f) (k := k) (Q := Q)
  rw [Memref.read_access_whole, Memref.write_access_whole_univ, Memref.set_access_whole] at hr
  exact hr

/-! ## One chunk of sixteen words -/

/-- A chunk zeroed. -/
theorem wp_zero_chunk {α : Type} (d : Dev nD) (L : grid0.Coords) (f : Vec F (Line 65536) .f32) (g j : ℕ) (hj : j < 8) (w : IVec (Line 16) 32)
    (hw : ∀ x : Fin 16, (w (lane x)).toNat = 128 * g + 16 * j + x.val)
    (h : ∀ (a : Fin 1) (x : (Line 16).Idx), ((![w] : Fin 1 → IVec (Line 16) 32) a x).toNat < S65536.size a) (hs)
    (k : PUnit → Prog (TpuEff nD τ sig (Elt F) Λ₀ (thr d L).2) α) (Q : α → sProp 𝕄) :
    accPts d L (upd f True g (fun _ => Scalar.ofBits .f32 0x00000000#32) (fun _ y => y) (16 * j)) ⊢
      (accPts d L (upd f True g (fun _ => Scalar.ofBits .f32 0x00000000#32) (fun _ y => y) (16 * (j + 1))) -∗
        wp frame (wpE (defs₀ (F := F)) 𝒱₀ (thr d L) none) Set.univ (k ⟨⟩) Q) -∗
      wp frame (wpE (defs₀ (F := F)) 𝒱₀ (thr d L) none) Set.univ (SparseCore.vectorStoreIdx accS ![w] (k0_pay12 (F := F)) (fun _ => 1#1) false h hs >>= k) Q := by
  have hu := storeIdx_upd (F := F) f True g (fun _ => Scalar.ofBits .f32 0x00000000#32) j hj w hw (k0_pay12 (F := F)) (fun _ => rfl) (fun _ => 1#1)
    (fun _ => iff_of_true rfl trivial) false (fun _ y => y) (fun _ _ => rfl) h
  have hr := wp_store_acc d L (upd f True g (fun _ => Scalar.ofBits .f32 0x00000000#32) (fun _ y => y) (16 * j)) w (k0_pay12 (F := F)) (fun _ => 1#1) false h hs k Q
  rw [hu] at hr
  exact hr

/-- A chunk of a row added, if the row is the tile's (`on`). -/
theorem wp_add_chunk {α : Type} (d : Dev nD) (L : grid0.Coords) (f : Vec F (Line 65536) .f32) (on : Prop) [Decidable on] (g : ℕ) (R : ℕ → F .f32) (j : ℕ) (hj : j < 8)
    (w : IVec (Line 16) 32) (hw : ∀ x : Fin 16, (w (lane x)).toNat = 128 * g + 16 * j + x.val) (v : Vec F S16 .f32) (hv : ∀ x : Fin 16, v (lane x) = R (16 * j + x.val))
    (mask : IVec S16 1) (hmask : ∀ x : Fin 16, mask (lane x) = 1 ↔ on)
    (h : ∀ (a : Fin 1) (x : (Line 16).Idx), ((![w] : Fin 1 → IVec (Line 16) 32) a x).toNat < S65536.size a) (hs)
    (k : PUnit → Prog (TpuEff nD τ sig (Elt F) Λ₀ (thr d L).2) α) (Q : α → sProp 𝕄) :
    accPts d L (upd f on g R FloatOps.idxAddf (16 * j)) ⊢
      (accPts d L (upd f on g R FloatOps.idxAddf (16 * (j + 1))) -∗ wp frame (wpE (defs₀ (F := F)) 𝒱₀ (thr d L) none) Set.univ (k ⟨⟩) Q) -∗
      wp frame (wpE (defs₀ (F := F)) 𝒱₀ (thr d L) none) Set.univ (SparseCore.vectorStoreIdx accS ![w] v mask true h hs >>= k) Q := by
  have hu := storeIdx_upd (F := F) f on g R j hj w hw v hv mask hmask true FloatOps.idxAddf (fun _ _ => rfl) h
  have hr := wp_store_acc d L (upd f on g R FloatOps.idxAddf (16 * j)) w v mask true h hs k Q
  rw [hu] at hr
  exact hr

/-! ## The zeroing trip -/

/-- A trip of the zeroing loop, as the tile runs it. -/
abbrev zeroTrip (L : grid0.Coords) := k0_t1_body (F := F) L idsM (Memref.isWhole_whole _) rowsM (Memref.isWhole_whole _) partsM (Memref.isWhole_whole _)
  idsS (Memref.isWhole_whole _) rowsS (Memref.isWhole_whole _) accS (Memref.isWhole_whole _) cc0_scoped0 cc0_scoped1 cc0_scoped2

/-- Trip `t` zeroes words `128 t` to `128 t + 127`. -/
theorem zero_trip (d : Dev nD) (L : grid0.Coords) (f : Vec F (Line 65536) .f32) (t : Fin k0_t1_loop.trips) :
    accPts d L (zeroed f (Scalar.ofBits .f32 0x00000000#32) (128 * t.val)) ⊢
      wp frame (wpE (defs₀ (F := F)) 𝒱₀ (thr d L) none) Set.univ (zeroTrip L t ⟨⟩)
        fun _ => accPts d L (zeroed f (Scalar.ofBits .f32 0x00000000#32) (128 * (t.val + 1))) := by
  have ht : t.val < 512 := lt_of_lt_of_le t.isLt k0_t1_abs.2.1
  have hin : ∀ (p : IVec (Line 16) 32) (j : ℕ), j < 8 → (∀ x : Fin 16, (p (lane x)).toNat = 16 * j + x.val) →
      (∀ x : Fin 16, (addi (k0_pay13 t) p (lane x)).toNat = 128 * t.val + 16 * j + x.val) ∧
        ∀ (a : Fin 1) (x : (Line 16).Idx), ((![addi (k0_pay13 t) p] : Fin 1 → IVec (Line 16) 32) a x).toNat < (Line 65536).size a := fun p j hj hp =>
    have h := at_toNat (k0_pay13 t) p t.val j (by omega) hj (pay13_toNat t) hp
    ⟨h, inb_of_lane _ fun k => by rw [h]; have := k.isLt; omega⟩
  have h0 := hin _ 0 (by decide) pay4_toNat
  have h1 := hin _ 1 (by decide) pay5_toNat
  have h2 := hin _ 2 (by decide) pay6_toNat
  have h3 := hin _ 3 (by decide) pay7_toNat
  have h4 := hin _ 4 (by decide) pay8_toNat
  have h5 := hin _ 5 (by decide) pay9_toNat
  have h6 := hin _ 6 (by decide) pay10_toNat
  have h7 := hin _ 7 (by decide) pay11_toNat
  rw [← zeroed_step]
  unfold zeroTrip k0_t1_body
  simp only [Prog.lift, Prog.bind_op, Prog.bind_ret, Prog.pure_eq_ret]
  iintro Hc
  ihave Hc := (show accPts d L (zeroed f (Scalar.ofBits .f32 0x00000000#32) (128 * t.val)) ⊢ accPts d L (upd (zeroed f (Scalar.ofBits .f32 0x00000000#32) (128 * t.val)) True t.val
      (fun _ => Scalar.ofBits .f32 0x00000000#32) (fun _ y => y) (16 * 0)) from Entails.of_eq (congrArg (accPts d L) (upd_zero ..).symm)) $$ Hc
  rw [wp_assume_of _ _ _ _ (show k0_chk1 _ from h0.2)]
  iapply (wp_zero_chunk d L _ t.val 0 (by decide) _ h0.1) $$ Hc; iintro Hc
  rw [wp_assume_of _ _ _ _ (show k0_chk2 _ from h1.2)]
  iapply (wp_zero_chunk d L _ t.val 1 (by decide) _ h1.1) $$ Hc; iintro Hc
  rw [wp_assume_of _ _ _ _ (show k0_chk3 _ from h2.2)]
  iapply (wp_zero_chunk d L _ t.val 2 (by decide) _ h2.1) $$ Hc; iintro Hc
  rw [wp_assume_of _ _ _ _ (show k0_chk4 _ from h3.2)]
  iapply (wp_zero_chunk d L _ t.val 3 (by decide) _ h3.1) $$ Hc; iintro Hc
  rw [wp_assume_of _ _ _ _ (show k0_chk5 _ from h4.2)]
  iapply (wp_zero_chunk d L _ t.val 4 (by decide) _ h4.1) $$ Hc; iintro Hc
  rw [wp_assume_of _ _ _ _ (show k0_chk6 _ from h5.2)]
  iapply (wp_zero_chunk d L _ t.val 5 (by decide) _ h5.1) $$ Hc; iintro Hc
  rw [wp_assume_of _ _ _ _ (show k0_chk7 _ from h6.2)]
  iapply (wp_zero_chunk d L _ t.val 6 (by decide) _ h6.1) $$ Hc; iintro Hc
  rw [wp_assume_of _ _ _ _ (show k0_chk8 _ from h7.2)]
  iapply (wp_zero_chunk d L _ t.val 7 (by decide) _ h7.1) $$ Hc; iintro Hc
  rw [wp_ret]; imodintro
  iexact Hc

/-! ## The row trip -/

/-- A trip of the row loop, as the tile runs it. -/
abbrev rowTrip (L : grid0.Coords) := k0_t3_body (F := F) L idsM (Memref.isWhole_whole _) rowsM (Memref.isWhole_whole _) partsM (Memref.isWhole_whole _)
  idsS (Memref.isWhole_whole _) rowsS (Memref.isWhole_whole _) accS (Memref.isWhole_whole _) cc0_scoped0 cc0_scoped1 cc0_scoped2

/-- The mask of a row: on exactly when the row lies between the block's own first row and the tile's end. -/
theorem pay1_iff (v5 v27 v28 : BitVec 32) (t : Fin k0_t3_loop.trips) (base bs hi : ℕ) (h5 : v5.toNat = hi) (h27 : v27.toNat = bs) (h28 : v28.toNat = base)
    (hb : base < 100000) (hbs : bs < 200000) (hhi : hi < 200000) (x : Fin 16) :
    k0_pay1 v5 v27 v28 0#32 1#32 t (lane x) = 1 ↔ (bs ≤ base + t.val ∧ base + t.val < hi) := by
  have ht : t.val < 136 := lt_of_lt_of_le t.isLt k0_t3_abs.2.1
  have hs : (v28 + Scf.iv 0#32 1#32 t.val).toNat = base + t.val := by
    rw [BitVec.toNat_add, iv_toNat _ (by omega), h28]; exact Nat.mod_eq_of_lt (by omega)
  show (BitVec.ofBool (BitVec.sle v27 (v28 + Scf.iv 0#32 1#32 t.val)) &&& BitVec.ofBool (BitVec.slt (v28 + Scf.iv 0#32 1#32 t.val) v5) : BitVec 1) = 1#1 ↔ _
  have h1 : BitVec.sle v27 (v28 + Scf.iv 0#32 1#32 t.val) = decide (bs ≤ base + t.val) := by
    rw [BitVec.sle, BitVec.toInt_eq_toNat_of_lt (by rw [h27]; omega), BitVec.toInt_eq_toNat_of_lt (by rw [hs]; omega), h27, hs]
    simp only [Nat.cast_le]
  have h2 : BitVec.slt (v28 + Scf.iv 0#32 1#32 t.val) v5 = decide (base + t.val < hi) := by
    rw [BitVec.slt, BitVec.toInt_eq_toNat_of_lt (by rw [hs]; omega), BitVec.toInt_eq_toNat_of_lt (by rw [h5]; omega), h5, hs]
    simp only [Nat.cast_lt]
  rw [h1, h2]
  by_cases p : bs ≤ base + t.val <;> by_cases q : base + t.val < hi <;> simp [p, q]

/-- Trip `t` adds the fetched block's row `t` to its group's line, when the row is the block's own. -/
theorem row_trip (d : Dev nD) (L : grid0.Coords) (idw : ℕ → BitVec 32) (xw : ℕ → F .f32) (lo base bs hi : ℕ) (v3 v5 v27 v28 : BitVec 32)
    (h3 : v3.toNat = lo) (h5 : v5.toNat = hi) (h27 : v27.toNat = bs) (h28 : v28.toNat = base)
    (hlo : lo ≤ base) (hin : base + 136 ≤ lo + 3128) (hb : base ≤ 99864) (hbs : bs < 200000) (hhi : hi < 200000) (hid : ∀ n, (idw n).toNat < 512)
    (t : Fin k0_t3_loop.trips) (f : Vec F (Line 65536) .f32) :
    iprop(idsPts d L (fun j => idw (lo + (j 0).val)) ∗ rowsPts d L (fun j => xw (128 * base + (j 0).val)) ∗ accPts d L f) ⊢
      wp frame (wpE (defs₀ (F := F)) 𝒱₀ (thr d L) none) Set.univ (rowTrip L v3 v5 v27 v28 t ⟨⟩)
        fun _ => iprop(idsPts d L (fun j => idw (lo + (j 0).val)) ∗ rowsPts d L (fun j => xw (128 * base + (j 0).val)) ∗
          accPts d L (upd f (bs ≤ base + t.val ∧ base + t.val < hi) (idw (base + t.val)).toNat (fun c => xw (128 * (base + t.val) + c)) FloatOps.idxAddf 128)) := by
  have ht : t.val < 136 := lt_of_lt_of_le t.isLt k0_t3_abs.2.1
  have hm := pay1_iff v5 v27 v28 t base bs hi h5 h27 h28 (by omega) hbs hhi
  have hgv : (v28 + Scf.iv 0#32 1#32 t.val - v3).toNat = base + t.val - lo := by
    rw [BitVec.toNat_sub, BitVec.toNat_add, iv_toNat _ (by omega), h28, h3]; omega
  have hg : ∀ x : Fin 16, (broadcast S16 (Scalar.subi (Scalar.addi v28 (Scf.iv 0#32 1#32 t.val)) v3) (lane x)).toNat = base + t.val - lo := fun _ => hgv
  have hc9 : ∀ (a : Fin 1) (x : (Line 16).Idx), ((![broadcast S16 (Scalar.subi (Scalar.addi v28 (Scf.iv 0#32 1#32 t.val)) v3)] : Fin 1 → IVec (Line 16) 32) a x).toNat < (Line 3128).size a :=
    inb_of_lane _ fun k => by rw [hg]; omega
  have hr : ∀ (p : IVec (Line 16) 32) (j : ℕ), j < 8 → (∀ x : Fin 16, (p (lane x)).toNat = 16 * j + x.val) →
      (∀ x : Fin 16, (addi (k0_pay3 0#32 1#32 t) p (lane x)).toNat = 128 * t.val + 16 * j + x.val) ∧
        (∀ (h : ∀ (a : Fin 1) (x : (Line 16).Idx), ((![addi (k0_pay3 0#32 1#32 t) p] : Fin 1 → IVec (Line 16) 32) a x).toNat < (Line 17408).size a) (x : Fin 16),
          loadIdx (F := F) (e := .f32) (s := Line 17408) (fun j => xw (128 * base + (j 0).val)) ![addi (k0_pay3 0#32 1#32 t) p] h (lane x) = xw (128 * (base + t.val) + (16 * j + x.val))) ∧
        ∀ (a : Fin 1) (x : (Line 16).Idx), ((![addi (k0_pay3 0#32 1#32 t) p] : Fin 1 → IVec (Line 16) 32) a x).toNat < (Line 17408).size a := fun p j hj hp => by
    have h := at_toNat (k0_pay3 0#32 1#32 t) p t.val j (by omega) hj (pay3_toNat t) hp
    refine ⟨h, fun hh x => ?_, inb_of_lane _ fun k => by rw [h]; have := k.isLt; omega⟩
    show xw (128 * base + (addi (k0_pay3 0#32 1#32 t) p (lane x)).toNat) = _
    rw [h]; congr 1; omega
  have r0 := hr _ 0 (by decide) pay4_toNat
  have r1 := hr _ 1 (by decide) pay5_toNat
  have r2 := hr _ 2 (by decide) pay6_toNat
  have r3 := hr _ 3 (by decide) pay7_toNat
  have r4 := hr _ 4 (by decide) pay8_toNat
  have r5 := hr _ 5 (by decide) pay9_toNat
  have r6 := hr _ 6 (by decide) pay10_toNat
  have r7 := hr _ 7 (by decide) pay11_toNat
  have hv : ∀ (x : Fin 16), (loadIdx (F := F) (e := .i32) (s := Line 3128) (fun j => idw (lo + (j 0).val)) ![broadcast S16 (Scalar.subi (Scalar.addi v28 (Scf.iv 0#32 1#32 t.val)) v3)] hc9 (lane x) : BitVec 32).toNat
      = (idw (base + t.val)).toNat := fun x => by
    show (idw (lo + (v28 + Scf.iv 0#32 1#32 t.val - v3).toNat)).toNat = _
    rw [hgv, show lo + (base + t.val - lo) = base + t.val by omega]
  have ha : ∀ (p : IVec (Line 16) 32) (j : ℕ), j < 8 → (∀ x : Fin 16, (p (lane x)).toNat = 16 * j + x.val) →
      ∀ v : Vec F S16 .i32, (∀ x : Fin 16, (v (lane x) : BitVec 32).toNat = (idw (base + t.val)).toNat) →
      (∀ x : Fin 16, (addi (k0_pay2 (F := F) v) p (lane x)).toNat = 128 * (idw (base + t.val)).toNat + 16 * j + x.val) ∧
        ∀ (a : Fin 1) (x : (Line 16).Idx), ((![addi (k0_pay2 (F := F) v) p] : Fin 1 → IVec (Line 16) 32) a x).toNat < (Line 65536).size a := fun p j hj hp v hv => by
    have hlt := hid (base + t.val)
    have h := at_toNat (k0_pay2 (F := F) v) p (idw (base + t.val)).toNat j (by omega) hj (pay2_toNat v _ hlt hv) hp
    exact ⟨h, inb_of_lane _ fun k => by rw [h]; have := k.isLt; omega⟩
  have a0 := ha _ 0 (by decide) pay4_toNat _ hv
  have a1 := ha _ 1 (by decide) pay5_toNat _ hv
  have a2 := ha _ 2 (by decide) pay6_toNat _ hv
  have a3 := ha _ 3 (by decide) pay7_toNat _ hv
  have a4 := ha _ 4 (by decide) pay8_toNat _ hv
  have a5 := ha _ 5 (by decide) pay9_toNat _ hv
  have a6 := ha _ 6 (by decide) pay10_toNat _ hv
  have a7 := ha _ 7 (by decide) pay11_toNat _ hv
  unfold rowTrip k0_t3_body
  simp only [k0_part1_eq_skeleton]
  unfold k0_part1_skel
  simp only [Prog.lift, Prog.bind_op, Prog.bind_ret, Prog.pure_eq_ret, Prog.bind_assoc]
  iintro ⟨Hi, Hx, Hc⟩
  ihave Hc := (show accPts d L f ⊢ accPts d L (upd f (bs ≤ base + t.val ∧ base + t.val < hi) (idw (base + t.val)).toNat (fun c => xw (128 * (base + t.val) + c)) FloatOps.idxAddf (16 * 0))
      from Entails.of_eq (congrArg (accPts d L) (upd_zero ..).symm)) $$ Hc
  rw [wp_assume_of _ _ _ _ (show k0_chk9 _ from hc9)]
  iapply (wp_load_ids d L _ _ _ _ _ _) $$ Hi; iintro Hi
  rw [wp_assume_of _ _ _ _ (show k0_chk10 _ from r0.2.2)]
  iapply (wp_load_rows d L _ _ _ _ _ _) $$ Hx; iintro Hx
  rw [wp_assume_of _ _ _ _ (show k0_chk11 _ from a0.2)]
  iapply (wp_add_chunk d L f (bs ≤ base + t.val ∧ base + t.val < hi) (idw (base + t.val)).toNat (fun c => xw (128 * (base + t.val) + c)) 0 (by decide) _ a0.1 _ (r0.2.1 _) _ hm) $$ Hc
  iintro Hc
  rw [wp_assume_of _ _ _ _ (show k0_chk12 _ from r1.2.2)]
  iapply (wp_load_rows d L _ _ _ _ _ _) $$ Hx; iintro Hx
  rw [wp_assume_of _ _ _ _ (show k0_chk13 _ from a1.2)]
  iapply (wp_add_chunk d L f (bs ≤ base + t.val ∧ base + t.val < hi) (idw (base + t.val)).toNat (fun c => xw (128 * (base + t.val) + c)) 1 (by decide) _ a1.1 _ (r1.2.1 _) _ hm) $$ Hc
  iintro Hc
  rw [wp_assume_of _ _ _ _ (show k0_chk14 _ from r2.2.2)]
  iapply (wp_load_rows d L _ _ _ _ _ _) $$ Hx; iintro Hx
  rw [wp_assume_of _ _ _ _ (show k0_chk15 _ from a2.2)]
  iapply (wp_add_chunk d L f (bs ≤ base + t.val ∧ base + t.val < hi) (idw (base + t.val)).toNat (fun c => xw (128 * (base + t.val) + c)) 2 (by decide) _ a2.1 _ (r2.2.1 _) _ hm) $$ Hc
  iintro Hc
  rw [wp_assume_of _ _ _ _ (show k0_chk16 _ from r3.2.2)]
  iapply (wp_load_rows d L _ _ _ _ _ _) $$ Hx; iintro Hx
  rw [wp_assume_of _ _ _ _ (show k0_chk17 _ from a3.2)]
  iapply (wp_add_chunk d L f (bs ≤ base + t.val ∧ base + t.val < hi) (idw (base + t.val)).toNat (fun c => xw (128 * (base + t.val) + c)) 3 (by decide) _ a3.1 _ (r3.2.1 _) _ hm) $$ Hc
  iintro Hc
  rw [wp_assume_of _ _ _ _ (show k0_chk18 _ from r4.2.2)]
  iapply (wp_load_rows d L _ _ _ _ _ _) $$ Hx; iintro Hx
  rw [wp_assume_of _ _ _ _ (show k0_chk19 _ from a4.2)]
  iapply (wp_add_chunk d L f (bs ≤ base + t.val ∧ base + t.val < hi) (idw (base + t.val)).toNat (fun c => xw (128 * (base + t.val) + c)) 4 (by decide) _ a4.1 _ (r4.2.1 _) _ hm) $$ Hc
  iintro Hc
  rw [wp_assume_of _ _ _ _ (show k0_chk20 _ from r5.2.2)]
  iapply (wp_load_rows d L _ _ _ _ _ _) $$ Hx; iintro Hx
  rw [wp_assume_of _ _ _ _ (show k0_chk21 _ from a5.2)]
  iapply (wp_add_chunk d L f (bs ≤ base + t.val ∧ base + t.val < hi) (idw (base + t.val)).toNat (fun c => xw (128 * (base + t.val) + c)) 5 (by decide) _ a5.1 _ (r5.2.1 _) _ hm) $$ Hc
  iintro Hc
  rw [wp_assume_of _ _ _ _ (show k0_chk22 _ from r6.2.2)]
  iapply (wp_load_rows d L _ _ _ _ _ _) $$ Hx; iintro Hx
  rw [wp_assume_of _ _ _ _ (show k0_chk23 _ from a6.2)]
  iapply (wp_add_chunk d L f (bs ≤ base + t.val ∧ base + t.val < hi) (idw (base + t.val)).toNat (fun c => xw (128 * (base + t.val) + c)) 6 (by decide) _ a6.1 _ (r6.2.1 _) _ hm) $$ Hc
  iintro Hc
  rw [wp_assume_of _ _ _ _ (show k0_chk24 _ from r7.2.2)]
  simp only [Prog.bind_ret]
  iapply (wp_load_rows d L _ _ _ _ _ _) $$ Hx; iintro Hx
  rw [wp_assume_of _ _ _ _ (show k0_chk25 _ from a7.2)]
  iapply (wp_add_chunk d L f (bs ≤ base + t.val ∧ base + t.val < hi) (idw (base + t.val)).toNat (fun c => xw (128 * (base + t.val) + c)) 7 (by decide) _ a7.1 _ (r7.2.1 _) _ hm) $$ Hc
  iintro Hc
  rw [wp_ret]; imodintro
  isplitl [Hi]; · iexact Hi
  isplitl [Hx]; · iexact Hx
  iexact Hc

end Cert.Proof.OnIdeal

end
-- ==== Proof.TileIdeal.lean ====
/-
  One tile's task by value: its group ids fetched, its running sums zeroed, its node rows fetched block by block and added, the sums
  written to the tile's row of the partial sums. Generic in the float instance.
-/
module

public import proofs.«01_k».proof.Proof.TripsIdeal

@[expose] public section

noncomputable section

namespace Cert.Proof.OnIdeal

open Cert.KernelIdeal Cert.KernelIdeal.Gen
open Cert.Proof.Segments

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "idsM" => (Memref.whole Cert.KernelIdeal.main_v2_scv : Memref Cert.KernelIdeal.sig Kind.scVector Space.hbm Cert.KernelIdeal.S100096 EltTy.i32)
local notation "rowsM" => (Memref.whole Cert.KernelIdeal.main_v3_scv : Memref Cert.KernelIdeal.sig Kind.scVector Space.hbm Cert.KernelIdeal.S12800000 EltTy.f32)
local notation "partsM" => (Memref.whole Cert.KernelIdeal.main_v4_scv : Memref Cert.KernelIdeal.sig Kind.scVector Space.hbm Cert.KernelIdeal.S32x65536 EltTy.f32)
local notation "idsS" => (Memref.whole Cert.KernelIdeal.cc0_scratch0 : Memref Cert.KernelIdeal.sig Kind.scVector Space.vmem Cert.KernelIdeal.S3128 EltTy.i32)
local notation "rowsS" => (Memref.whole Cert.KernelIdeal.cc0_scratch1 : Memref Cert.KernelIdeal.sig Kind.scVector Space.vmem Cert.KernelIdeal.S17408 EltTy.f32)
local notation "accS" => (Memref.whole Cert.KernelIdeal.cc0_scratch2 : Memref Cert.KernelIdeal.sig Kind.scVector Space.vmem Cert.KernelIdeal.S65536 EltTy.f32)

variable {F : FTy → Type} [FloatOps F]

local notation "𝕄" => MT nD τ sig (HIx 1) (Elt F) ℕ UU ℕ

/-- The tile's first node row. -/
def lo (L : grid0.Coords) : ℕ := 6256 * (L 1).val + 3128 * (L 0).val
/-- How many node rows are the tile's: 3128, but the last tile's 3032. -/
def cnt (L : grid0.Coords) : ℕ := min 3128 (100000 - lo L)

theorem lo_le (L : grid0.Coords) : lo L ≤ 96968 := by
  have h0 : (L 0).val < 2 := (L 0).isLt
  have h1 : (L 1).val < 16 := (L 1).isLt
  unfold lo; omega

/-! ## Pieces of main memory as the tile reads them -/

/-- The padded ids and the node rows, read through a share of the whole array. -/
abbrev idsIn (d : Dev nD) (L : grid0.Coords) (q : PosShare TreeShare) (idw : ℕ → BitVec 32) : sProp 𝕄 :=
  iprop(((idsM).view.loc (thr d L)) ↦[Finset.univ]{q} ((fun j => idw (j 0).val : Vec F (Line 100096) .i32) : Buf (Elt F) ((idsM).view.loc (thr d L))))
abbrev rowsIn (d : Dev nD) (L : grid0.Coords) (q : PosShare TreeShare) (xw : ℕ → F .f32) : sProp 𝕄 :=
  iprop(((rowsM).view.loc (thr d L)) ↦[Finset.univ]{q} ((fun j => xw (j 0).val : Vec F (Line 12800000) .f32) : Buf (Elt F) ((rowsM).view.loc (thr d L))))

/-- The tile's own cells, one for each of its three transfers. -/
abbrev cell0 (d : Dev nD) (L : grid0.Coords) : GSem nD τ sig := (thr d L, .dma cc0_scoped0.sem)
abbrev cell1 (d : Dev nD) (L : grid0.Coords) : GSem nD τ sig := (thr d L, .dma cc0_scoped1.sem)
abbrev cell2 (d : Dev nD) (L : grid0.Coords) : GSem nD τ sig := (thr d L, .dma cc0_scoped2.sem)

/-- What the tile owes, its own waits recorded beyond `W`. -/
abbrev owing (d : Dev nD) (L : grid0.Coords) (O : CellTallies nD τ sig (HIx 1)) (W : Waits sig (HIx 1)) : sProp 𝕄 :=
  iprop(∃ W', ⌜∀ p ∈ W', p ∈ W ∨ p.2 = none⌝ ∗ owes (thr d L) O W')

/-- A trip of the block loop, as the tile runs it. -/
abbrev blockTrip (L : grid0.Coords) := k0_t2_body (F := F) L idsM (Memref.isWhole_whole _) rowsM (Memref.isWhole_whole _) partsM (Memref.isWhole_whole _)
  idsS (Memref.isWhole_whole _) rowsS (Memref.isWhole_whole _) accS (Memref.isWhole_whole _) cc0_scoped0 cc0_scoped1 cc0_scoped2

/-- The state before block `b`: the first `136 b` of the tile's rows (all of them, past its end) are in the sums. -/
abbrev blockInv (d : Dev nD) (L : grid0.Coords) (q : PosShare TreeShare) (idw : ℕ → BitVec 32) (xw : ℕ → F .f32) (O : CellTallies nD τ sig (HIx 1)) (W : Waits sig (HIx 1))
    (b : ℕ) : sProp 𝕄 :=
  iprop(Transfers.MayWaits (thr d L) (default : HIx 1) O ∗ rowsIn d L q xw ∗ idsPts d L (fun j => idw (lo L + (j 0).val)) ∗ (∃ g, rowsPts d L g)
    ∗ accPts d L (sums (fun n => (idw n).toNat) xw (lo L) (min (136 * b) (100000 - lo L))) ∗ semVal (cell1 d L) 0 ∗ owing d L O W)

/-- One row more of the tile's: the row's line has it, if the row is the block's own. -/
theorem row_next (L : grid0.Coords) (ids : ℕ → ℕ) (xw : ℕ → F .f32) (b r : ℕ) (hb : b < 23) (hr : r < 136) :
    upd (sums ids xw (lo L) (rowsDone (lo L) b r))
        (lo L + 136 * b ≤ min (lo L + 136 * b) 99864 + r ∧ min (lo L + 136 * b) 99864 + r < min (lo L + 3128) 100000)
        (ids (min (lo L + 136 * b) 99864 + r)) (fun c => xw (128 * (min (lo L + 136 * b) 99864 + r) + c)) FloatOps.idxAddf 128
      = sums ids xw (lo L) (rowsDone (lo L) b (r + 1)) := by
  have hl := lo_le L
  by_cases on : lo L + 136 * b ≤ min (lo L + 136 * b) 99864 + r ∧ min (lo L + 136 * b) 99864 + r < min (lo L + 3128) 100000
  · have e : min (lo L + 136 * b) 99864 + r = lo L + rowsDone (lo L) b r := by unfold rowsDone; omega
    have e' : rowsDone (lo L) b (r + 1) = rowsDone (lo L) b r + 1 := by unfold rowsDone; omega
    rw [e']
    have h := sums_step ids xw (lo L) (rowsDone (lo L) b r) _ on
    rw [← e] at h
    exact h
  · rw [sums_skip _ _ on]
    have e' : rowsDone (lo L) b (r + 1) = rowsDone (lo L) b r := by unfold rowsDone; omega
    rw [e']

/-- The fetched block: row `r` of block `b` is row `min (lo + 136 b) 99864 + r` of the node rows. -/
theorem fetched_rows (L : grid0.Coords) (b : Fin k0_t2_loop.trips) (xw : ℕ → F .f32) (g : Vec F (Line 17408) .f32) :
    (rowsS).view.write (Elt F) g (ReadAs.same.apply (((rowsM).slice (Rect.unit (s := S12800000) (k0_off2 L b) S17408.size (k0_off2_inb L b)) (fun _ => rfl)).view.read (Elt F)
        (fun j => xw (j 0).val : Vec F (Line 12800000) .f32))) Finset.univ
      = (fun j => xw (128 * min (lo L + 136 * b.val) 99864 + (j 0).val) : Vec F (Line 17408) .f32) := by
  have hw := View.write_whole_univ (Val := Elt F) cc0_scratch1 g (((rowsM).slice (Rect.unit (s := S12800000) (k0_off2 L b) S17408.size (k0_off2_inb L b)) (fun _ => rfl)).view.read (Elt F)
        (fun j => xw (j 0).val : Vec F (Line 12800000) .f32))
  refine hw.trans ?_
  funext j
  show xw (k0_off2 L b 0 + 1 * (j 0).val) = _
  rw [Nat.one_mul, show k0_off2 L b 0 = 128 * min (lo L + 136 * b.val) 99864 from congrFun (k0_off2_eq L b) 0]

theorem block_trip (d : Dev nD) (L : grid0.Coords) (q : PosShare TreeShare) (idw : ℕ → BitVec 32) (hid : ∀ n, (idw n).toNat < 512) (xw : ℕ → F .f32)
    (O : CellTallies nD τ sig (HIx 1)) (W : Waits sig (HIx 1)) (v3 v5 : BitVec 32) (h3 : v3.toNat = lo L) (h5 : v5.toNat = min (lo L + 3128) 100000)
    (b : Fin k0_t2_loop.trips) :
    blockInv d L q idw xw O W b.val ⊢
      wp frame (wpE (defs₀ (F := F)) 𝒱₀ (thr d L) none) Set.univ (blockTrip L v3 v5 b ⟨⟩) fun _ => blockInv d L q idw xw O W (b.val + 1) := by
  have hb : b.val < 23 := lt_of_lt_of_le b.isLt k0_t2_abs.2.1
  have hl := lo_le L
  have h27 : (Scalar.addi v3 (Scalar.muli (Scf.iv 0#32 1#32 b.val) 136#32)).toNat = lo L + 136 * b.val := by
    show (v3 + Scf.iv 0#32 1#32 b.val * 136#32).toNat = _
    rw [BitVec.toNat_add, BitVec.toNat_mul, iv_toNat _ (by omega), h3]
    show (lo L + b.val * 136 % 4294967296) % 4294967296 = _
    omega
  have h28 : (Scalar.minsi (Scalar.addi v3 (Scalar.muli (Scf.iv 0#32 1#32 b.val) 136#32)) 99864#32).toNat = min (lo L + 136 * b.val) 99864 := by
    show (IntOp.minsi _ _).toNat = _
    rw [WordArith.toNat_minsi_of_lt _ _ (by rw [h27]; omega) (by decide), h27]; rfl
  unfold blockTrip k0_t2_body
  unfold blockInv owing
  iintro ⟨Hmw, Hr, Hi, ⟨%g, Hx⟩, Hc, Hsem, %W', %hW', HO⟩
  sl_exec (disch := exact View.amount_pos _ _ (show 0 < S17408.numel by decide))
  unfold block_trip.sl.dma0
  ihave Hx := (show _ ⊢ rowsPts d L (fun j => xw (128 * min (lo L + 136 * b.val) 99864 + (j 0).val)) from
    Entails.of_eq (congrArg (rowsPts d L) (fetched_rows L b xw g))) $$ Hx
  sl_for (fun r _ => iprop(idsPts d L (fun j => idw (lo L + (j 0).val)) ∗ rowsPts d L (fun j => xw (128 * min (lo L + 136 * b.val) 99864 + (j 0).val)) ∗
    accPts d L (sums (fun n => (idw n).toNat) xw (lo L) (rowsDone (lo L) b.val r)))) $$ [Hi Hx Hc]
  case region =>
    intro r _
    have hr : r.val < 136 := lt_of_lt_of_le r.isLt k0_t3_abs.2.1
    have h := row_trip d L idw xw (lo L) (min (lo L + 136 * b.val) 99864) (lo L + 136 * b.val) (min (lo L + 3128) 100000) v3 v5 _ _ h3 h5 h27 h28
      (by omega) (by omega) (by omega) (by omega) (by omega) hid r (sums (fun n => (idw n).toNat) xw (lo L) (rowsDone (lo L) b.val r.val))
    rw [row_next L (fun n => (idw n).toNat) xw b.val r.val hb hr] at h
    exact h
  · isplitl [Hi]; · iexact Hi
    isplitl [Hx]; · iexact Hx
    rw [show rowsDone (lo L) b.val 0 = min (136 * b.val) (100000 - lo L) by unfold rowsDone; omega]
    iexact Hc
  iintro %_ ⟨Hi, Hx, Hc⟩
  rw [show rowsDone (lo L) b.val k0_t3_loop.trips = min (136 * (b.val + 1)) (100000 - lo L) by
    rw [show k0_t3_loop.trips = 136 from rfl]; unfold rowsDone; omega]
  sl_step
  isplitl [Hmw]; · iexact Hmw
  isplitl [Hr]; · iexact Hr
  isplitl [Hi]; · iexact Hi
  isplitl [Hx]; · iexists _; iexact Hx
  isplitl [Hc]; · iexact Hc
  isplitl [Hsem]; · iexact Hsem
  iexists _; isplitr
  swap; · iexact HO
  ipureintro; intro p hp
  rcases Finset.mem_insert.mp hp with hp | hp
  · exact .inr (hp ▸ rfl)
  · exact hW' p hp

/-! ## The launch's parameters -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tile's row of the partial sums -/

theorem hdiv : 32 ∣ S32x65536.size 0 := ⟨1, rfl⟩
/-- Row `w` of the partial sums. -/
abbrev row (w : Fin 32) : Rect S32x65536 := Rect.part (s := S32x65536) (a₀ := 0) hdiv w
abbrev rowSet (w : Fin 32) : Finset S32x65536.Idx := ((partsM).view.slice (row w)).set

/-- The tile's number. -/
abbrev wid (L : grid0.Coords) : Fin 32 := ⟨2 * (L 1).val + (L 0).val, by
  have h0 : (L 0).val < 2 := (L 0).isLt
  have h1 : (L 1).val < 16 := (L 1).isLt
  omega⟩

theorem lo_eq (L : grid0.Coords) : lo L = 3128 * (wid L).val := by
  show 6256 * (L 1).val + 3128 * (L 0).val = 3128 * (2 * (L 1).val + (L 0).val)
  omega

/-- The row as the tile's program spells it. -/
abbrev rowK (L : grid0.Coords) : Rect S32x65536 := Rect.unit (s := S32x65536) (k0_off3 L) S1x65536.size (k0_off3_inb L)
abbrev partRow (L : grid0.Coords) : Memref sig .scVector .hbm S65536 .f32 := ((partsM).slice (rowK L) (fun _ => rfl)).squeeze S65536 squeezes_S1x65536_S65536

theorem rowK_eq (L : grid0.Coords) : rowK L = row (wid L) := by
  unfold rowK row Rect.part Rect.block
  congr 1 <;> funext a
  · rw [k0_off3_eq]
    match a with
    | 0 => simp [Shape.partIx, Shape.partSize]
    | 1 => simp [Shape.partIx, Shape.partSize]
  · match a with
    | 0 => simp [Shape.partSize]
    | 1 => simp [Shape.partSize]

theorem set_partRow (L : grid0.Coords) : (partRow L).view.set = rowSet (wid L) := by
  show (((partsM).view.slice (rowK L)).reshape S65536 squeezes_S1x65536_S65536.numel_eq).set = ((partsM).view.slice (row (wid L))).set
  rw [View.set_reshape]
  exact rowK_eq L ▸ rfl

/-- The row at contents `f`, as the program spells it and as the launch deals it. -/
abbrev rowPts (d : Dev nD) (L : grid0.Coords) (f : Vec F S32x65536 .f32) : sProp 𝕄 :=
  iprop(((partsM).view.loc (thr d L)) ↦[rowSet (wid L)]{fullShare} (f : Buf (Elt F) ((partsM).view.loc (thr d L))))

theorem pts_partRow (d : Dev nD) (L : grid0.Coords) (f : Vec F S32x65536 .f32) :
    ((partRow L).view.loc (thr d L) ↦[(partRow L).view.set]{fullShare} (f : Buf (Elt F) ((partRow L).view.loc (thr d L))) : sProp 𝕄) = rowPts d L f := by
  rw [set_partRow]

/-- The partial sums: row `w` holds tile `w`'s. -/
def partials (idw : ℕ → BitVec 32) (xw : ℕ → F .f32) : Vec F S32x65536 .f32 := fun p =>
  cell (fun n => (idw n).toNat) xw (3128 * (p 0).val) (min 3128 (100000 - 3128 * (p 0).val)) (p 1).val

/-- The tile's sums written to its row are the partial sums there. -/
theorem written_row (d : Dev nD) (L : grid0.Coords) (idw : ℕ → BitVec 32) (xw : ℕ → F .f32) (f : Vec F S32x65536 .f32) :
    ((partRow L).view.loc (thr d L) ↦[(partRow L).view.set]{fullShare} ((partRow L).view.writes (Elt F) f
        [⟨Rect.whole S65536, ReadAs.same.apply ((accS).view.read (Elt F) (sums (fun n => (idw n).toNat) xw (lo L) (cnt L)))⟩]) : sProp 𝕄)
      = rowPts d L (partials idw xw) := by
  have hw : ∀ x, (ReadAs.same.apply ((accS).view.read (Elt F) (sums (fun n => (idw n).toNat) xw (lo L) (cnt L))) : Vec F S65536 .f32) x
      = cell (fun n => (idw n).toNat) xw (lo L) (cnt L) (x 0).val := fun _ => rfl
  generalize (ReadAs.same.apply ((accS).view.read (Elt F) (sums (fun n => (idw n).toNat) xw (lo L) (cnt L))) : Vec F S65536 .f32) = w at hw ⊢
  rw [← pts_partRow]
  refine pointsTo_congr fun i hi => ?_
  obtain ⟨x, -, rfl⟩ := Finset.mem_map.mp hi
  have hx := View.read_writes_cons_hit (partRow L).view f (Rect.whole S65536) w [] x x (Rect.emb_whole_apply S65536 x)
  rw [View.read_apply] at hx
  generalize (partRow L).view.writes (Elt F) f [⟨Rect.whole S65536, w⟩] = g at hx ⊢
  refine Eq.trans (b := w x) hx ?_
  clear hx
  have he : (partRow L).view.emb x = fun a => match a with | ⟨0, _⟩ => wid L | ⟨1, _⟩ => x 0 := by
    show (rowK L).emb (Shape.reshapeEquiv squeezes_S1x65536_S65536.numel_eq x) = _
    rw [Shape.reshapeEquiv_cons_one]
    funext a
    match a with
    | ⟨0, _⟩ => apply Fin.ext; show k0_off3 L 0 + 1 * 0 = _; rw [show k0_off3 L 0 = 2 * (L 1).val + (L 0).val from congrFun (k0_off3_eq L) 0]; rfl
    | ⟨1, _⟩ => apply Fin.ext; show k0_off3 L 1 + 1 * (x 0).val = _; rw [show k0_off3 L 1 = 0 from congrFun (k0_off3_eq L) 1, Nat.zero_add, Nat.one_mul]
  rw [he, hw]
  show cell _ xw (lo L) (cnt L) (x 0).val = cell _ xw (3128 * (wid L).val) (min 3128 (100000 - 3128 * (wid L).val)) (x 0).val
  unfold cnt
  rw [lo_eq]

/-! ## The tile's own cells and arrays -/

theorem ownSems0_V (d : Dev nD) (L : grid0.Coords) :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ## The task -/

/-- The fetched ids: word `r` is the id of row `lo + r`. -/
theorem fetched_ids (L : grid0.Coords) (idw : ℕ → BitVec 32) (g : Vec F (Line 3128) .i32) :
    (idsS).view.write (Elt F) g (ReadAs.same.apply (((idsM).slice (Rect.unit (s := S100096) (k0_off1 L) S3128.size (k0_off1_inb L)) (fun _ => rfl)).view.read (Elt F)
        (fun j => idw (j 0).val : Vec F (Line 100096) .i32))) Finset.univ
      = (fun j => idw (lo L + (j 0).val) : Vec F (Line 3128) .i32) := by
  have hw := View.write_whole_univ (Val := Elt F) cc0_scratch0 g (((idsM).slice (Rect.unit (s := S100096) (k0_off1 L) S3128.size (k0_off1_inb L)) (fun _ => rfl)).view.read (Elt F)
        (fun j => idw (j 0).val : Vec F (Line 100096) .i32))
  refine hw.trans ?_
  funext j
  show idw (k0_off1 L 0 + 1 * (j 0).val) = _
  rw [Nat.one_mul, show k0_off1 L 0 = lo L from congrFun (k0_off1_eq L) 0]

theorem trips1 : Scf.trips k0_t1_loop.lb k0_t1_loop.ub k0_t1_loop.st = 512 := rfl
theorem trips2 : Scf.trips k0_t2_loop.lb k0_t2_loop.ub k0_t2_loop.st = 23 := rfl

/-- The task: it leaves the ids and the rows as they were and its row of the partial sums at its sums. -/
theorem tile_body (d : Dev nD) (L : grid0.Coords) (qi qx : PosShare TreeShare) (idw : ℕ → BitVec 32) (hid : ∀ n, (idw n).toNat < 512) (xw : ℕ → F .f32)
    (f0 : Vec F S32x65536 .f32) (O : CellTallies nD τ sig (HIx 1)) (W : Waits sig (HIx 1)) (hO : ∀ g, O g none = 0) :
    iprop(levAts (K (F := F)).L (K (F := F)).lev ∗ emp
        ∗ (idsIn d L qi idw ∗ rowsIn d L qx xw ∗ rowPts d L f0)
        ∗ scopedBufs (thr d L) ∗ scopedSems0 (thr d L) ∗ owes (thr d L) O W)
      ⊢ wp frame (wpE (defs₀ (F := F)) 𝒱₀ (thr d L) none) Set.univ
          (cc0__sc_segment_sum L idsM (Memref.isWhole_whole _) rowsM (Memref.isWhole_whole _) partsM (Memref.isWhole_whole _)
            idsS (Memref.isWhole_whole _) rowsS (Memref.isWhole_whole _) accS (Memref.isWhole_whole _) cc0_scoped0 cc0_scoped1 cc0_scoped2)
          fun _ => iprop((idsIn d L qi idw ∗ rowsIn d L qx xw ∗ rowPts d L (partials idw xw))
            ∗ scopedBufs (thr d L) ∗ scopedSems0 (thr d L)
            ∗ ∃ W', ⌜∀ p ∈ W', p ∈ W ∨ p.2 = none ∨ p.2 = some (0 : Fin 1)⌝ ∗ owes (thr d L) O W') := by
  have hl := lo_le L
  have h0 : (L 0).val < 2 := (L 0).isLt
  have h1 : (L 1).val < 16 := (L 1).isLt
  have h3 : (Scalar.muli (Scalar.addi (Scalar.muli (BitVec.ofNat 32 (L 1).val) 2#32) (BitVec.ofNat 32 (L 0).val)) 3128#32).toNat = lo L := by
    show ((BitVec.ofNat 32 (L 1).val * 2#32 + BitVec.ofNat 32 (L 0).val) * 3128#32).toNat = 6256 * (L 1).val + 3128 * (L 0).val
    rw [BitVec.toNat_mul, BitVec.toNat_add, BitVec.toNat_mul, BitVec.toNat_ofNat, BitVec.toNat_ofNat]
    simp only [BitVec.toNat_ofNat]
    omega
  have h5 : (Scalar.minsi (Scalar.addi (Scalar.muli (Scalar.addi (Scalar.muli (BitVec.ofNat 32 (L 1).val) 2#32) (BitVec.ofNat 32 (L 0).val)) 3128#32) 3128#32) 100000#32).toNat
      = min (lo L + 3128) 100000 := by
    have h4 : (Scalar.addi (Scalar.muli (Scalar.addi (Scalar.muli (BitVec.ofNat 32 (L 1).val) 2#32) (BitVec.ofNat 32 (L 0).val)) 3128#32) 3128#32).toNat = lo L + 3128 := by
      show (_ + 3128#32 : BitVec 32).toNat = _
      rw [BitVec.toNat_add, h3]
      show (lo L + 3128) % 4294967296 = _
      omega
    show (IntOp.minsi _ _).toNat = _
    rw [WordArith.toNat_minsi_of_lt _ _ (by rw [h4]; omega) (by decide), h4]; rfl
  rw [(K (F := F)).scopedBufs_V facts d (cV L) (jV L), SparseCore.Cfg.scopedSems0_V (Val := Elt F) d (cV L) (jV L), ownSems0_V, ownBufs_V]
  iintro ⟨#Hlv, -, ⟨Hi, Hr, Hp⟩, ⟨⟨%gi, Hs⟩, ⟨%gx, Hx⟩, ⟨%gc, Hc⟩, Hbufs⟩, ⟨Hsem0, Hsem1, Hsem2, Hsems⟩, HO⟩
  ihave Hmw := (show levAts (K (F := F)).L (K (F := F)).lev ⊢ Transfers.MayWaits (thr d L) (default : HIx 1) O from
    (K (F := F)).mayWaits_none (thr := thr d L) hO) $$ Hlv
  ihave Hs := (show _ ⊢ idsPts d L gi from .rfl) $$ Hs
  ihave Hx := (show _ ⊢ rowsPts d L gx from .rfl) $$ Hx
  ihave Hc := (show _ ⊢ accPts d L gc from .rfl) $$ Hc
  simp only [cc0__sc_segment_sum_eq_skeleton]; unfold cc0__sc_segment_sum_skel
  simp only [k0_part2_eq_skeleton]; unfold k0_part2_skel
  sl_exec (disch := exact View.amount_pos _ _ (show 0 < S3128.numel by decide))
  unfold tile_body.sl.dma0
  ihave Hs := (show _ ⊢ idsPts d L (fun j => idw (lo L + (j 0).val)) from
    Entails.of_eq (congrArg (idsPts d L) (fetched_ids L idw gi))) $$ Hs
  ihave Hc := (show accPts d L gc ⊢ accPts d L (zeroed gc (Scalar.ofBits .f32 0x00000000#32) (128 * 0)) from
    Entails.of_eq (congrArg (accPts d L) (zeroed_zero gc _).symm)) $$ Hc
  simp only [bind_assoc]
  sl_for (fun t _ => accPts d L (zeroed gc (Scalar.ofBits .f32 0x00000000#32) (128 * t))) $$ [Hc]
  case region =>
    intro t _
    exact zero_trip d L gc t
  · iexact Hc
  iintro %_ Hc
  ihave Hc := (show accPts d L (zeroed gc (Scalar.ofBits .f32 0x00000000#32) (128 * Scf.trips k0_t1_loop.lb k0_t1_loop.ub k0_t1_loop.st)) ⊢
      accPts d L (sums (fun n => (idw n).toNat) xw (lo L) (min (136 * 0) (100000 - lo L))) from
    Entails.of_eq (congrArg (accPts d L) (((congrArg (zeroed gc _) (show 128 * Scf.trips k0_t1_loop.lb k0_t1_loop.ub k0_t1_loop.st = 65536 from congrArg (128 * ·) trips1)).trans
      (zeroed_all gc _)).trans ((congrArg (sums (fun n => (idw n).toNat) xw (lo L)) (Nat.zero_min _)).trans (sums_zero _ _ _)).symm))) $$ Hc
  sl_for (fun b _ => blockInv d L qx idw xw O (insert ((cell0 d L).2, default) W) b) $$ [Hmw Hr Hs Hx Hc Hsem1 HO]
  case region =>
    intro b _
    exact block_trip d L qx idw hid xw O _ _ _ h3 h5 b
  · unfold blockInv owing
    isplitl [Hmw]; · iexact Hmw
    isplitl [Hr]; · iexact Hr
    isplitl [Hs]; · iexact Hs
    isplitl [Hx]; · iexists _; iexact Hx
    isplitl [Hc]; · iexact Hc
    isplitl [Hsem1]; · iexact Hsem1
    iexists _; isplitr; swap
    · iexact HO
    · ipureintro; intro p hp; exact .inl hp
  iintro %_ HI
  unfold blockInv owing
  icases HI with ⟨-, Hr, Hs, ⟨%g', Hx⟩, Hc, Hsem1, %W', %hW', HO⟩
  ihave Hc := (show accPts d L (sums (fun n => (idw n).toNat) xw (lo L) (min (136 * Scf.trips k0_t2_loop.lb k0_t2_loop.ub k0_t2_loop.st) (100000 - lo L))) ⊢
      accPts d L (sums (fun n => (idw n).toNat) xw (lo L) (cnt L)) from
    Entails.of_eq (congrArg (accPts d L) (congrArg (sums (fun n => (idw n).toNat) xw (lo L))
      (show min (136 * Scf.trips k0_t2_loop.lb k0_t2_loop.ub k0_t2_loop.st) (100000 - lo L) = cnt L from by rw [trips2]; rfl)))) $$ Hc
  ihave Hp := (Entails.of_eq (pts_partRow (F := F) d L f0).symm) $$ Hp
  sl_exec (disch := exact View.amount_pos _ _ (show 0 < S65536.numel by decide))
  unfold tile_body.sl.dma0_1
  rw [wp_ret]
  imodintro
  isplitl [Hi Hr Hp]
  · isplitl [Hi]; · iexact Hi
    isplitl [Hr]; · iexact Hr
    iapply (Entails.of_eq (written_row d L idw xw f0)); iexact Hp
  isplitl [Hs Hx Hc Hbufs]
  · isplitl [Hs]; · iexists _; iexact Hs
    isplitl [Hx]; · iexists _; iexact Hx
    isplitl [Hc]; · iexists _; iexact Hc
    iexact Hbufs
  isplitl [Hsem0 Hsem1 Hsem2 Hsems]
  · isplitl [Hsem0]; · iexact Hsem0
    isplitl [Hsem1]; · iexact Hsem1
    isplitl [Hsem2]; · iexact Hsem2
    iexact Hsems
  iexists _; isplitr; swap
  · iexact HO
  · ipureintro; intro p _
    rcases p.2 with _ | q
    · exact .inr (.inl rfl)
    · exact .inr (.inr (congrArg some (Subsingleton.elim q 0)))

end Cert.Proof.OnIdeal

end
-- ==== Proof.LaunchIdeal.lean ====
/-
  The launch's payloads: what each tile is handed with its task and hands back; the whole arrays dealt among the 32 tiles and
  gathered again; the task's obligation. Generic in the float instance.
-/
module

public import proofs.«01_k».proof.Proof.TileIdeal

@[expose] public section

noncomputable section

namespace Cert.Proof.OnIdeal

open Cert.KernelIdeal Cert.KernelIdeal.Gen
open Cert.Proof.Segments

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

local notation "idsM" => (Memref.whole Cert.KernelIdeal.main_v2_scv : Memref Cert.KernelIdeal.sig Kind.scVector Space.hbm Cert.KernelIdeal.S100096 EltTy.i32)
local notation "rowsM" => (Memref.whole Cert.KernelIdeal.main_v3_scv : Memref Cert.KernelIdeal.sig Kind.scVector Space.hbm Cert.KernelIdeal.S12800000 EltTy.f32)
local notation "partsM" => (Memref.whole Cert.KernelIdeal.main_v4_scv : Memref Cert.KernelIdeal.sig Kind.scVector Space.hbm Cert.KernelIdeal.S32x65536 EltTy.f32)
local notation "idsS" => (Memref.whole Cert.KernelIdeal.cc0_scratch0 : Memref Cert.KernelIdeal.sig Kind.scVector Space.vmem Cert.KernelIdeal.S3128 EltTy.i32)
local notation "rowsS" => (Memref.whole Cert.KernelIdeal.cc0_scratch1 : Memref Cert.KernelIdeal.sig Kind.scVector Space.vmem Cert.KernelIdeal.S17408 EltTy.f32)
local notation "accS" => (Memref.whole Cert.KernelIdeal.cc0_scratch2 : Memref Cert.KernelIdeal.sig Kind.scVector Space.vmem Cert.KernelIdeal.S65536 EltTy.f32)

variable {F : FTy → Type} [FloatOps F]

local notation "𝕄" => MT nD τ sig (HIx 1) (Elt F) ℕ UU ℕ

/-! ## The arrays the call takes, by the launch's memory -/

variable (m : (ℓ : Loc nD τ sig) → Buf (Elt F) ℓ)

abbrev loc (d : Dev nD) (b : Ref sig .tc) : Loc nD τ sig := (SparseCore.T d).loc b

/-- Position `n` of a line. -/
def pos {N : ℕ} (n : ℕ) (h : n < N) : (Line N).Idx := fun a => match a with | ⟨0, _⟩ => ⟨n, h⟩

/-- The padded ids, word by word: the node rows' groups, then zeroes. -/
def idw (d : Dev nD) (n : ℕ) : BitVec 32 :=
  if h : n < 100000 then (m (loc d main_arg2) : Vec F S100000 .i32) (pos n h) else 0#32
/-- The node rows, word by word. -/
def xw (d : Dev nD) (n : ℕ) : F .f32 :=
  if h : n < 12800000 then shapeCast S12800000 (m (loc d main_arg0) : Vec F S100000x128 .f32) shapeCasts_S100000x128_S12800000 (pos n h)
    else Scalar.ofBits .f32 0x00000000#32

abbrev idsV (d : Dev nD) : Buf (Elt F) (loc d main_v2) := (fun j => idw m d (j 0).val : Vec F (Line 100096) .i32)
abbrev rowsV (d : Dev nD) : Buf (Elt F) (loc d main_v3) := (fun j => xw m d (j 0).val : Vec F (Line 12800000) .f32)

/-! ## What a tile is handed and hands back -/

def coordsV (c : Fin (grid0.bound 0)) (s : Fin (grid0.bound 1)) : grid0.Coords :=
  fun | 0 => c | 1 => s | ⟨_ + 2, h⟩ => absurd h (Nat.not_lt.2 (Nat.le_add_left _ _))

/-- A tile's number from its pair. -/
abbrev widOf (c : Fin 2) (s : Fin 16) : Fin 32 := wid (coordsV c s)

/-- Tile `w`'s pieces: its read shares of the ids and the rows, its row of the partial sums at `f`. -/
abbrev piece (d : Dev nD) (f : Vec F S32x65536 .f32) (w : Fin 32) : sProp 𝕄 :=
  iprop((loc d main_v2 ↦[Finset.univ]{Transfers.shareTok fullShare 32 w} idsV m d) ∗ (loc d main_v3 ↦[Finset.univ]{Transfers.shareTok fullShare 32 w} rowsV m d)
    ∗ loc d main_v4 ↦[rowSet w]{fullShare} (f : Buf (Elt F) (loc d main_v4)))

abbrev parts (d : Dev nD) : Vec F S32x65536 .f32 := partials (idw m d) (xw m d)

theorem nCore_zero : (K (F := F)).nCore 0 = 2 := rfl

/-- The payloads of the launch's one call. -/
def P : (K (F := F)).Pay (nD := nD) (Val := Elt F) (Name := ℕ) (U := UU) where
  st := fun q d c => match q with
    | 0 => bigSep Finset.univ fun i : Fin 16 => piece m d (m (loc d main_v4)) (widOf (Fin.cast nCore_zero c) i)
  dn := fun q d c => match q with
    | 0 => bigSep Finset.univ fun i : Fin 16 => piece m d (parts m d) (widOf (Fin.cast nCore_zero c) i)
  go := fun q d c i => match q with
    | 0 => piece m d (m (loc d main_v4)) (widOf (Fin.cast nCore_zero c) (Fin.cast nSub_zero i))
  td := fun q d c i => match q with
    | 0 => piece m d (parts m d) (widOf (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => piece m d (m (loc d main_v4)) (widOf (Fin.cast nCore_zero c) i)))
  dn q d c := match q with
    | 0 => (inferInstance : BI.Storable (upEmb : UEmb _ 𝕄) (bigSep Finset.univ fun i : Fin 16 => piece m d (parts m d) (widOf (Fin.cast nCore_zero c) i)))
  go q d c i := match q with
    | 0 => (inferInstance : BI.Storable (upEmb : UEmb _ 𝕄) (piece m d (m (loc d main_v4)) (widOf (Fin.cast nCore_zero c) (Fin.cast nSub_zero i))))
  td q d c i := match q with
    | 0 => (inferInstance : BI.Storable (upEmb : UEmb _ 𝕄) (piece m d (parts m d) (widOf (Fin.cast nCore_zero c) (Fin.cast nSub_zero i))))

/-! ## The task's obligation -/

theorem defs₀_vector (c : Fin τ.nSC) (s : Fin τ.nSub) :
    defs₀ (F := F) (.scVector c s) 0 ()
      = SparseCore.onTile hcore0 hsub0 (fun c s => cc0__sc_segment_sum (coordsV c s)
          idsM (Memref.isWhole_whole _) rowsM (Memref.isWhole_whole _) partsM (Memref.isWhole_whole _)
          idsS (Memref.isWhole_whole _) rowsS (Memref.isWhole_whole _) accS (Memref.isWhole_whole _) cc0_scoped0 cc0_scoped1 cc0_scoped2) ⟨⟩ c s := rfl

set_option maxRecDepth 1024 in
theorem tileObl (hid : ∀ d n, (idw m d n).toNat < 512) : (K (F := F)).TileObl (D (F := F)) 𝒱 (P m) v₀ 0 := by
  intro d c i O W hO _ _
  simp only [show (P (F := F) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact tile_body d (coordsV ⟨_, hci.1⟩ ⟨_, hci.2⟩) _ _ (idw m d) (hid d) (xw m d) (m (loc d main_v4)) O W hO

/-! ## A SparseCore's pieces are its tiles' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun i : Fin 16 => piece m d (m (loc d main_v4)) (widOf (Fin.cast nCore_zero c) i)) ⊢ |={Set.univ}=> iprop(
      (bigSep Finset.univ fun i : Fin ((K (F := F)).nSub 0) => piece m d (m (loc d main_v4)) (widOf (Fin.cast nCore_zero c) (Fin.cast nSub_zero i)))
      ∗ ((bigSep Finset.univ fun i : Fin ((K (F := F)).nSub 0) => piece m d (parts m d) (widOf (Fin.cast nCore_zero c) (Fin.cast nSub_zero i)))
          -∗ bigSep Finset.univ fun i : Fin 16 => piece m d (parts m d) (widOf (Fin.cast nCore_zero c) i)))
  rw [bigSep_tasks (F := F) fun i => piece m d (m (loc d main_v4)) (widOf (Fin.cast nCore_zero c) i),
    bigSep_tasks (F := F) fun i => piece m d (parts m d) (widOf (Fin.cast nCore_zero c) i)]
  iintro H; imodintro
  isplitl [H]; · iexact H
  iintro H; iexact H

/-! ## The arrays dealt among the tiles -/

/-- A tile's pair and its number. -/
def pairEquiv : Fin 2 × Fin 16 ≃ Fin 32 where
  toFun p := widOf p.1 p.2
  invFun w := (⟨w.val % 2, Nat.mod_lt _ (by decide)⟩, ⟨w.val / 2, by have := w.isLt; omega⟩)
  left_inv := by
    rintro ⟨c, s⟩
    have hc := c.isLt
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

theorem bigSep_pairs (Φ : Fin 32 → sProp 𝕄) :
    (bigSep Finset.univ fun c : Fin ((K (F := F)).nCore 0) => bigSep Finset.univ fun i : Fin 16 => Φ (widOf (Fin.cast nCore_zero c) i)) = bigSep Finset.univ Φ := by
  rw [bigSep_cores (F := F) fun c => bigSep Finset.univ fun i : Fin 16 => Φ (widOf c i)]
  rw [bigSep_univ_equiv pairEquiv, bigSep_univ_prod]
  rfl

theorem rows_disjoint : ∀ i ∈ (Finset.univ : Finset (Fin 32)), ∀ j ∈ (Finset.univ : Finset (Fin 32)), i ≠ j → Disjoint (rowSet i) (rowSet j) :=
  fun i _ j _ h => by
    show Disjoint ((View.whole main_v4_scv).slice (row i)).set ((View.whole main_v4_scv).slice (row j)).set
    rw [View.set_slice_whole, View.set_slice_whole]; exact Rect.part_disjoint hdiv h

theorem rowSet_eq (i : Fin 32) : rowSet i = (row i).set := View.set_slice_whole _ _
theorem rows_cover : (Finset.univ : Finset (Fin 32)).biUnion rowSet = Finset.univ :=
  (Finset.biUnion_congr rfl fun i _ => rowSet_eq i).trans (Rect.biUnion_part hdiv)

theorem parts_rows (d : Dev nD) (f : Buf (Elt F) (loc d main_v4)) :
    (loc d main_v4 ↦{fullShare} f : sProp 𝕄) = bigSep Finset.univ fun w : Fin 32 => loc d main_v4 ↦[rowSet w]{fullShare} f := by
  rw [← pointsTo_biUnion Finset.univ (ℓ := loc d main_v4) rowSet rows_disjoint, rows_cover]; try rfl

/-- What stays with the TensorCore while the tiles read: the shares left over. -/
abbrev kept (d : Dev nD) : sProp 𝕄 :=
  iprop((loc d main_v2 ↦[Finset.univ]{Transfers.shareDrop fullShare 32} idsV m d) ∗ (loc d main_v3 ↦[Finset.univ]{Transfers.shareDrop fullShare 32} rowsV m d))

/-- The three arrays dealt: the tiles' pieces and what stays. -/
theorem deal (d : Dev nD) (f : Vec F S32x65536 .f32) :
    iprop((loc d main_v2 ↦{fullShare} idsV m d) ∗ (loc d main_v3 ↦{fullShare} rowsV m d) ∗ loc d main_v4 ↦{fullShare} (f : Buf (Elt F) (loc d main_v4)))
      ⊢ (iprop(kept m d ∗ bigSep Finset.univ (piece m d f)) : sProp 𝕄) := by
  rw [parts_rows, show (bigSep Finset.univ (piece m d f) : sProp 𝕄) = _ from bigSep_sep' _ _ _, bigSep_sep']
  iintro ⟨Hi, Hx, Hp⟩
  ihave Hi := (Transfers.pointsTo_toks_split (ℓ := loc d main_v2) (S := Finset.univ) fullShare 32) $$ Hi
  ihave Hx := (Transfers.pointsTo_toks_split (ℓ := loc d main_v3) (S := Finset.univ) fullShare 32) $$ Hx
  icases Hi with ⟨Hi, Hit⟩
  icases Hx with ⟨Hx, Hxt⟩
  isplitl [Hi Hx]
  · isplitl [Hi] <;> iassumption
  isplitl [Hit]; · iexact Hit
  isplitl [Hxt]; · iexact Hxt
  iexact Hp

/-- And gathered. -/
theorem gather (d : Dev nD) (f : Vec F S32x65536 .f32) :
    iprop(kept m d ∗ bigSep Finset.univ (piece m d f))
      ⊢ (iprop((loc d main_v2 ↦{fullShare} idsV m d) ∗ (loc d main_v3 ↦{fullShare} rowsV m d) ∗ loc d main_v4 ↦{fullShare} (f : Buf (Elt F) (loc d main_v4))) : sProp 𝕄) := by
  rw [parts_rows, show (bigSep Finset.univ (piece m d f) : sProp 𝕄) = _ from bigSep_sep' _ _ _, bigSep_sep']
  iintro ⟨⟨Hi, Hx⟩, Hit, Hxt, Hp⟩
  isplitl [Hi Hit]
  · iapply (Transfers.pointsTo_toks_join (ℓ := loc d main_v2) (S := Finset.univ) fullShare 32); isplitl [Hi] <;> iassumption
  isplitl [Hx Hxt]
  · iapply (Transfers.pointsTo_toks_join (ℓ := loc d main_v3) (S := Finset.univ) fullShare 32); isplitl [Hx] <;> iassumption
  iexact Hp

end Cert.Proof.OnIdeal
-- ==== Proof.RegionIdeal.lean ====
/-
  The TensorCore's region: the finishing body, run by value, and the region around it — entered from the partial sums, the weights, the
  bias and the result's array, left with the result's array at the payload of the first three. Generic in the float instance.
-/
module

public import proofs.«01_k».proof.Proof.LaunchIdeal
public import proofs.«01_k».proof.Proof.Gen.KernelIdeal.Launch
public import proofs.«01_k».proof.Proof.Gen.KernelIdeal.Points
public import Idealize.ShloMosaic.Lib.Pipeline.Regions
public import Idealize.ShloMosaic.Lib.VecWindow

@[expose] public section

noncomputable section

namespace Cert.Proof.OnIdeal

open Cert.KernelIdeal Cert.KernelIdeal.Gen
open Cert.Proof.Segments

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

abbrev Held (c : Dev nD) {sp : Space} {S : Shape} {e : EltTy} (M : Memref sig .tc sp S e) (f : Buf (Elt F) (M.view.loc (c : Thread nD τ))) : sProp 𝕄 :=
  M.view.loc (c : Thread nD τ) ↦{fullShare} f

/-- What the finishing body leaves in its fourth buffer, with its run: the first three buffers are read and handed back. -/
def finishRun (c : Dev nD) (M0 : Memref sig .tc .vmem S32x65536 .f32) (h0 : M0.IsWhole) (M1 : Memref sig .tc .vmem S128x128 .f32) (h1 : M1.IsWhole)
    (M2 : Memref sig .tc .vmem S1x128 .f32) (h2 : M2.IsWhole) (M3 : Memref sig .tc .vmem S512x128 .f32) (h3 : M3.IsWhole)
    (x0 : Buf (Elt F) (M0.view.loc (c : Thread nD τ))) (x1 : Buf (Elt F) (M1.view.loc (c : Thread nD τ))) (x2 : Buf (Elt F) (M2.view.loc (c : Thread nD τ))) :
    { R : Buf (Elt F) (M3.view.loc (c : Thread nD τ)) // ∀ (x3 : Buf (Elt F) (M3.view.loc (c : Thread nD τ))) (E : Set ℕ) (Q : PUnit → sProp 𝕄),
        iprop(Held c M0 x0 ∗ Held c M1 x1 ∗ Held c M2 x2 ∗ Held c M3 x3
            ∗ (iprop(Held c M0 x0 ∗ Held c M1 x1 ∗ Held c M2 x2 ∗ Held c M3 R) -∗ Q ⟨⟩))
          ⊢ wp frame (wpE (defs₀ (F := F)) Variants.none c none) E (cc1__tc_finish_body M0 h0 M1 h1 M2 h2 M3 h3) Q } := by
  refine ⟨?_, fun x3 E Q => ?run⟩
  case run =>
    rw [cc1__tc_finish_body_eq_skeleton]
    unfold cc1__tc_finish_body_skel
    iintro ⟨H0, H1, H2, H3, Hk⟩
    sl_exec!
    sl_step
    iapply Hk
    isplitl [H0]; · iexact H0
    isplitl [H1]; · iexact H1
    isplitl [H2]; · iexact H2
    iexact H3

theorem finishRun_eq (c : Dev nD) (x0 : Vec F S32x65536 .f32) (x1 : Vec F S128x128 .f32) (x2 : Vec F S1x128 .f32) :
    (finishRun (F := F) c (stage1_0 0) (hstage1_0 0) (stage1_1 0) (hstage1_1 0) (stage1_2 0) (hstage1_2 0) (stage1_3 0) (hstage1_3 0) x0 x1 x2).1
      = (k1_pay1 x0 x1 x2 : Vec F S512x128 .f32) := by
  dsimp only [finishRun]
  unfold finishRun.sl.H3_1
  have e0 := View.readAt_full (Val := Elt F) (stage1_0 0).view x0 inb_S32x65536_S32x65536_0_0
  have e1 := View.readAt_full (Val := Elt F) (stage1_1 0).view x1 inb_S128x128_S128x128_0_0
  have e2 := View.readAt_full (Val := Elt F) (stage1_2 0).view x2 inb_S1x128_S1x128_0_0
  have r0 : (stage1_0 0).view.read (Elt F) x0 = x0 := rfl
  have r1 : (stage1_1 0).view.read (Elt F) x1 = x1 := rfl
  have r2 : (stage1_2 0).view.read (Elt F) x2 = x2 := rfl
  rw [e0, e1, e2, r0, r1, r2]
  generalize k1_pay1 x0 x1 x2 = y
  exact View.read_writes_full (Val := Elt F) (stage1_3 0).view (View.junk (stage1_3 0).view) inb_S512x128_S512x128_0_0 y []

/-! ## The region's data -/

/-- The four arrays the region is entered from: the partial sums, the weights, the bias, and the result's array. -/
structure Arrays (F : FTy → Type) where
  parts : Vec F S32x65536 .f32
  weights : Vec F S128x128 .f32
  bias : Vec F S1x128 .f32
  result : Vec F S512x128 .f32

/-- What the region leaves in the result's array. -/
abbrev Arrays.out (V : Arrays F) : Vec F S512x128 .f32 := k1_pay1 V.parts V.weights V.bias

variable (V : Dev nD → Arrays F)

/-- The waits recorded on the TensorCore's thread through the region: of the first call's levels at the most. -/
abbrev rec8 (c : Dev nD) : Set (SemLoc sig × HIx 1) := {p | (K (F := F)).lev ((SparseCore.T c : Thread nD τ), p.1) p.2 ≤ 8}

def dat (c : Dev nD) : Dat τ (Elt F) (HIx 1) ℕ UU ℕ cfg1 c where
  A w := match w with
    | ⟨0, _⟩ => (V c).parts
    | ⟨1, _⟩ => (V c).weights
    | ⟨2, _⟩ => (V c).bias
    | ⟨3, _⟩ => (V c).result
  after w _ := match w with
    | ⟨0, _⟩ => (V c).parts
    | ⟨1, _⟩ => (V c).weights
    | ⟨2, _⟩ => (V c).bias
    | ⟨3, _⟩ => (V c).out
  Φ _ := BI.emp
  q _ := fullShare
  owed _ := 0
  recorded _ := rec8 (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before_0 (c : Dev nD) (d : (cfg1.win 0).block.Idx → Elt F (cfg1.win 0).elt) : (dat V c).before 0 t1_0 d = (V c).parts := by
  unfold Dat.before; rw [if_pos (fetch1_0 t1_0)]
  have hz : (fun a => (win1_0.index t1_0) a * main_v4.ty.shape.size a) = fun _ => 0 := funext fun a => by fin_cases a <;> decide
  have hr := fun f => Memref.read_access_unit_zero (Elt F) main_v4 hz (fun a => by fin_cases a <;> decide) f
  exact hr (V c).parts
theorem before_1 (c : Dev nD) (d : (cfg1.win 1).block.Idx → Elt F (cfg1.win 1).elt) : (dat V c).before 1 t1_0 d = (V c).weights := by
  unfold Dat.before; rw [if_pos (fetch1_1 t1_0)]
  have hz : (fun a => (win1_1.index t1_0) a * main_arg3.ty.shape.size a) = fun _ => 0 := funext fun a => by fin_cases a <;> decide
  have hr := fun f => Memref.read_access_unit_zero (Elt F) main_arg3 hz (fun a => by fin_cases a <;> decide) f
  exact hr (V c).weights
theorem before_2 (c : Dev nD) (d : (cfg1.win 2).block.Idx → Elt F (cfg1.win 2).elt) : (dat V c).before 2 t1_0 d = (V c).bias := by
  unfold Dat.before; rw [if_pos (fetch1_2 t1_0)]
  have hz : (fun a => (win1_2.index t1_0) a * main_v5.ty.shape.size a) = fun _ => 0 := funext fun a => by fin_cases a <;> decide
  have hr := fun f => Memref.read_access_unit_zero (Elt F) main_v5 hz (fun a => by fin_cases a <;> decide) f
  exact hr (V c).bias

/-- The result's array after the region. -/
theorem result_after (c : Dev nD) : (dat V c).arrAt 3 cfg1.N = ((V c).out : Vec F S512x128 .f32) := by
  have ho : ((cfg1.win (3 : Fin 4)).blk t1_0).view.read (Elt F) ((dat V c).arrAt (3 : Fin 4) cfg1.N) = (dat V c).flushed (3 : Fin 4) t1_0 := by
    rw [show cfg1.N = (t1_0 : Fin cfg1.N).val + 1 from N_1, (dat V c).arrAt_succ (3 : Fin 4) t1_0, flush1_3 t1_0, if_pos rfl]
    exact View.read_write_univ _ _
  have hz : (fun a => (win1_3.index t1_0) a * main_v6.ty.shape.size a) = fun _ => 0 := funext fun a => by fin_cases a <;> decide
  have hr := fun f => Memref.read_access_unit_zero (Elt F) main_v6 hz (fun a => by fin_cases a <;> decide) f
  exact (hr _).symm.trans ho

theorem body_ok (c : Dev nD) : BodyObligation (dat V c) (defs₀ (F := F)) 𝒱₀ (none : HIx 1) Set.univ := fun t => by
  obtain rfl := fin_N1 t
  rw [bigSep_W1, bigSep_W1]
  simp only [owns_whole_eq]
  rw [show (dat V c).Φ t1_0.castSucc = BI.emp from rfl, show (dat V c).Φ t1_0.succ = BI.emp from rfl,
    show (dat V c).owesAt (none : HIx 1) t1_0.succ = (dat V c).owesAt (none : HIx 1) t1_0.castSucc from rfl]
  iintro ⟨-, Howes, ⟨%d0, %f0, %hf0, H0⟩, ⟨%d1, %f1, %hf1, H1⟩, ⟨%d2, %f2, %hf2, H2⟩, ⟨%d3, %f3, -, H3⟩⟩
  rw [before_0] at hf0
  rw [before_1] at hf1
  rw [before_2] at hf2
  have hout := finishRun_eq c (V c).parts (V c).weights (V c).bias
  subst hf0 hf1 hf2
  iapply ((finishRun (F := F) c (stage1_0 0) (hstage1_0 0) (stage1_1 0) (hstage1_1 0) (stage1_2 0) (hstage1_2 0) (stage1_3 0) (hstage1_3 0)
    (V c).parts (V c).weights (V c).bias).2 f3 Set.univ _)
  isplitl [H0]; · iexact H0
  isplitl [H1]; · iexact H1
  isplitl [H2]; · iexact H2
  isplitl [H3]; · iexact H3
  iintro ⟨H0, H1, H2, H3⟩
  isplitr; · iempintro
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; exact hout

/-! ## The region -/

abbrev ty (b : Ref sig .tc) : Type := b.ty.Contents (Elt F)

/-- The region's four arrays held whole. -/
abbrev Four (c : Dev nD) (a : Vec F S32x65536 .f32) (w : Vec F S128x128 .f32) (b : Vec F S1x128 .f32) (o : Vec F S512x128 .f32) : sProp 𝕄 :=
  iprop((((SparseCore.T c : Thread nD τ).loc main_v4) ↦{fullShare} (a : Buf (Elt F) ((SparseCore.T c : Thread nD τ).loc main_v4)))
    ∗ (((SparseCore.T c : Thread nD τ).loc main_arg3) ↦{fullShare} (w : Buf (Elt F) ((SparseCore.T c : Thread nD τ).loc main_arg3)))
    ∗ (((SparseCore.T c : Thread nD τ).loc main_v5) ↦{fullShare} (b : Buf (Elt F) ((SparseCore.T c : Thread nD τ).loc main_v5)))
    ∗ (((SparseCore.T c : Thread nD τ).loc main_v6) ↦{fullShare} (o : Buf (Elt F) ((SparseCore.T c : Thread nD τ).loc main_v6))))

/-- The TensorCore owes nothing, its waits recorded below the second call's levels. -/
abbrev Idle (c : Dev nD) : sProp 𝕄 :=
  iprop(∃ W, ⌜(K (F := F)).WBelow (SparseCore.T c) W 8⌝ ∗ owes (SparseCore.T c : Thread nD τ) (0 : CellTallies nD τ sig (HIx 1)) W)

theorem arrays_four (c : Dev nD) (Fs : (w : Fin cfg1.W) → Buf (Elt F) ((cfg1.win w).arr.view.loc (c.tc : Thread nD τ))) :
    (dat V c).arrays Fs = Four c (Fs 0) (Fs 1) (Fs 2) (Fs 3) := by
  unfold Dat.arrays
  rw [bigSep_W1]
  have h : ∀ w : Fin 4, (cfg1.win w).arr.view.set = Finset.univ := fun w => (arr_whole1 w).set_eq_univ
  have hs : ∀ w, (dat V c).share w = fullShare := (dat V c).share_full fun _ => rfl
  rw [hs 0, hs 1, hs 2, hs 3, h 0, h 1, h 2, h 3]

set_option backward.isDefEq.respectTransparency.types false in
def reg : Pipeline.RegionSeg (pcfgs (F := F)) adm (pdats V) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_ok V c).loose
  hwaits := Pipeline.hwaits_of_owed_zero _ _ _ _ (K (F := F)).L (K (F := F)).lev 0 fun _ _ => rfl
  pre c := iprop(Four c (V c).parts (V c).weights (V c).bias (V c).result ∗ Idle c)
  post c := iprop(Four c (V c).parts (V c).weights (V c).bias (V c).out ∗ Idle c)
  X _ := BI.emp
  Y _ := BI.emp
  Z _ := BI.emp
  hentry c := by
    rw [Pipeline.ownSems0_none, show (pdats V 0 c).arrays ((pdats V 0 c).arrAt · 0) = (dat V c).arrays (dat V c).A from rfl, arrays_four]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats V 0 c).Φ 0 = BI.emp from rfl]
    iintro -; iempintro
  hout c := by
    rw [Pipeline.ownSems0_none, scopedRest1_eq]
    iintro -
    isplitr; · iempintro
    isplitr; · iempintro
    iempintro
  hexit c := by
    rw [show (pdats V 0 c).arrays ((pdats V 0 c).arrAt · (Pipeline.pin (pcfgs (F := F)) adm 0).N)
      = (dat V c).arrays ((dat V c).arrAt · cfg1.N) from rfl, arrays_four, result_after, (dat V c).arrAt_in 0 rfl, (dat V c).arrAt_in 1 rfl, (dat V c).arrAt_in 2 rfl]
    iintro ⟨Ha, HO, -, -⟩
    imodintro
    isplitl [Ha]; · iexact Ha
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

/-! ## The region's call in `@main` -/

def EB : Emb UP 𝕄 :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EB_landsIn : (EB (F := F) : Emb UP 𝕄).LandsIn (upEmb : UEmb _ 𝕄) := by unfold EB; infer_instance

/-- What the region's pipeline takes of the ghost state dealt at the launch. -/
abbrev Dealt (c : Dev nD) : sProp 𝕄 :=
  iprop(Pipeline.cellsGhost (Pipeline.pin (pcfgs (F := F)) adm) (EB (F := F)) 0 c ∗ Pipeline.toksInit (Pipeline.pin (pcfgs (F := F)) adm) (EB (F := F)) 0 c)

theorem region_run [∀ e, Nonempty (Elt F e)] (c : Dev nD) (Φ : PUnit → sProp 𝕄) :
    iprop(boundary (SparseCore.T c : Thread nD τ) ∗ (reg V).pre c
        ∗ levAts (K (F := F)).L (K (F := F)).lev ∗ Dealt c
        ∗ (iprop(boundary (SparseCore.T c : Thread nD τ) ∗ (reg V).post c) -∗ Φ ⟨⟩))
      ⊢ wp frame (wpE D 𝒱 (SparseCore.T c) none) Set.univ (.op (.customCall (Pipeline.entry 0) ()) fun _ => .ret ⟨⟩) Φ := by
  have h := Pipeline.RegionSeg.wp (pcfgs (F := F)) adm (pdats V) (none : HIx 1) cellOf_inj (EB (F := F)) defs₀ 𝒱₀ (K (F := F)).L (K (F := F)).lev
    (reg V) c none (fun _ h => nomatch h) (fun _ => .ret ⟨⟩) Φ
  refine BIBase.Entails.trans ?_ h
  generalize reg V = R
  iintro ⟨Hb, H4, Hl, ⟨Hc, Ht⟩, Hk⟩
  isplitl [Hk]
  · iintro ⟨Hb, H4⟩
    rw [wp_ret]; imodintro
    iapply Hk
    isplitl [Hb]; · iexact Hb
    iexact H4
  isplitl [Hb]; · iexact Hb
  isplitl [H4]; · iexact H4
  isplitl [Hl]; · iexact Hl
  isplitl [Hc]; · iexact Hc
  iexact Ht

theorem lifted (c : Dev nD) (Φ : PUnit → sProp 𝕄) :
    wp frame (wpE D 𝒱 (SparseCore.T c) none) Set.univ (.op (.customCall (Pipeline.entry 0) ()) fun _ => .ret ⟨⟩) Φ
      ⊢ wp frame (wpE ((K (F := F)).defs D) 𝒱 (SparseCore.T c) none) Set.univ
          (Prog.lift (.customCall (SparseCore.inner (Pipeline.entry 0)) ())) Φ := by
  have h := (K (F := F)).wp_liftProg D 𝒱 (SparseCore.T c) Set.univ none (.op (.customCall (Pipeline.entry 0) ()) fun _ => .ret ⟨⟩) Φ
  rw [SparseCore.liftProg_op, SparseCore.liftProg_ret] at h
  exact h
theorem pre_eq (c : Dev nD) : (reg V).pre c = iprop(Four c (V c).parts (V c).weights (V c).bias (V c).result ∗ Idle c) := by
  unfold reg; rfl
theorem post_eq (c : Dev nD) : (reg V).post c = iprop(Four c (V c).parts (V c).weights (V c).bias (V c).out ∗ Idle c) := by
  unfold reg; rfl

theorem finish_call [∀ e, Nonempty (Elt F e)] (c : Dev nD) (Φ : PUnit → sProp 𝕄) :
    iprop(boundary (SparseCore.T c : Thread nD τ) ∗ (Four c (V c).parts (V c).weights (V c).bias (V c).result ∗ Idle c)
        ∗ levAts (K (F := F)).L (K (F := F)).lev ∗ Dealt c
        ∗ (iprop(boundary (SparseCore.T c : Thread nD τ) ∗ (Four c (V c).parts (V c).weights (V c).bias (V c).out ∗ Idle c)) -∗ Φ ⟨⟩))
      ⊢ wp frame (wpE ((K (F := F)).defs D) 𝒱 (SparseCore.T c) none) Set.univ
          (Prog.lift (.customCall (SparseCore.inner (Pipeline.entry 0)) ())) Φ := by
  have h := region_run V c Φ
  rw [pre_eq, post_eq] at h
  exact h.trans (lifted c Φ)

end Cert.Proof.OnIdeal

end
-- ==== Proof.MainIdeal.lean ====
/-
  @main on the TensorCore by value, and the program's run: the ids written into a longer line of zeroes, the node rows laid out in one
  line, the tiles' call, the bias laid out as a row, the finishing call. Generic in the float instance.
-/
module

public import proofs.«01_k».proof.Proof.RegionIdeal
public import proofs.«01_k».proof.Proof.Padded
public import Idealize.ShloMosaic.Lib.StableHlo.Run
public import Idealize.ShloMosaic.Lib.SparseCore.Quiescent

@[expose] public section

noncomputable section

namespace Cert.Proof.OnIdeal

open Cert.KernelIdeal Cert.KernelIdeal.Gen
open Cert.Proof.Segments

open Idealize.ShloMosaic
open Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The handshakes' rounds in the launch's ghost state. -/
abbrev EH : Emb UH 𝕄 := embL

/-! ## The operations and what they leave -/

/-- A buffer of the TensorCore as the device names it. -/
abbrev dv (b : Ref sig .tc) : DevRef τ sig := Proc.devRef .tc b

abbrev opZero : HloOp τ sig (Elt F) := StableHlo.nullary main_c (constantI S_ 32 0#32)
abbrev opZeroes : HloOp τ sig (Elt F) :=
  StableHlo.unary main_c main_v0 (broadcastInDim S100096 ![] bcast_S_S100096 : (⟨S_, .i32⟩ : BufTy).Contents (Elt F) → (⟨S100096, .i32⟩ : BufTy).Contents (Elt F))
abbrev opStart : HloOp τ sig (Elt F) := StableHlo.nullary main_c_0 (constantI S_ 32 0#32)
abbrev opStarts : HloOp τ sig (Elt F) :=
  StableHlo.unary main_c_0 main_v1 (broadcastInDim S1 ![] bcast_S_S1 : (⟨S_, .i32⟩ : BufTy).Contents (Elt F) → (⟨S1, .i32⟩ : BufTy).Contents (Elt F))
abbrev opPad : HloOp τ sig (Elt F) :=
  StableHlo.ternary main_v0 main_v1 main_arg2 main_v2 ((fun x i u => Host.scatter scatter_S100096_S1_S100000_0_n_0_0 (fun _ b => b) x i u) :
    (⟨S100096, .i32⟩ : BufTy).Contents (Elt F) → (⟨S1, .i32⟩ : BufTy).Contents (Elt F) → (⟨S100000, .i32⟩ : BufTy).Contents (Elt F) → (⟨S100096, .i32⟩ : BufTy).Contents (Elt F))
abbrev opRows : HloOp τ sig (Elt F) := StableHlo.reshape main_arg0 main_v3 (rfl : (.f32 : EltTy) = .f32) shapeCasts_S100000x128_S12800000
abbrev opBias : HloOp τ sig (Elt F) := StableHlo.reshape main_arg4 main_v5 (rfl : (.f32 : EltTy) = .f32) shapeCasts_S128_S1x128

/-- The TensorCore's arrays in main memory. -/
abbrev S14 : Finset (DevRef τ sig) :=
  {dv main_v2, dv main_v3, dv main_v4, dv main_arg3, dv main_v5, dv main_v6, dv main_arg0, dv main_arg1, dv main_arg2, dv main_arg4,
    dv main_c, dv main_v0, dv main_c_0, dv main_v1}

/-- One of them held whole. -/
abbrev Has (d : Dev nD) (b : Ref sig .tc) (f : Buf (Elt F) (loc d b)) : sProp 𝕄 := loc d b ↦{fullShare} f

omit [FloatOps F] in
theorem held_eq (d : Dev nD) (W : Valuation τ sig (Elt F)) :
    (held (SparseCore.T d) S14 W : sProp 𝕄) = iprop(Has d main_v2 (W (dv main_v2)) ∗ Has d main_v3 (W (dv main_v3)) ∗ Has d main_v4 (W (dv main_v4))
      ∗ Has d main_arg3 (W (dv main_arg3)) ∗ Has d main_v5 (W (dv main_v5)) ∗ Has d main_v6 (W (dv main_v6))
      ∗ Has d main_arg0 (W (dv main_arg0)) ∗ Has d main_arg1 (W (dv main_arg1)) ∗ Has d main_arg2 (W (dv main_arg2)) ∗ Has d main_arg4 (W (dv main_arg4))
      ∗ Has d main_c (W (dv main_c)) ∗ Has d main_v0 (W (dv main_v0)) ∗ Has d main_c_0 (W (dv main_c_0)) ∗ Has d main_v1 (W (dv main_v1))) := by
  unfold held S14
  iterate 13 rw [SparseCore.bigSep_insert' (by decide)]
  rw [bigSep_singleton]

omit [FloatOps F] in
theorem unscoped_eq (d : Dev nD) (W : (b : Ref sig .tc) → Buf (Elt F) ((d.tc : Thread nD τ).loc b)) :
    (unscopedBufs d W : sProp 𝕄) = iprop(Has d main_v2 (W main_v2) ∗ Has d main_v3 (W main_v3) ∗ Has d main_v4 (W main_v4)
      ∗ Has d main_arg3 (W main_arg3) ∗ Has d main_v5 (W main_v5) ∗ Has d main_v6 (W main_v6)
      ∗ Has d main_arg0 (W main_arg0) ∗ Has d main_arg1 (W main_arg1) ∗ Has d main_arg2 (W main_arg2) ∗ Has d main_arg4 (W main_arg4)
      ∗ Has d main_c (W main_c) ∗ Has d main_v0 (W main_v0) ∗ Has d main_c_0 (W main_c_0) ∗ Has d main_v1 (W main_v1)) := by
  unfold unscopedBufs
  rw [show (Finset.univ.filter fun b : Ref sig .tc => ¬ b.isScoped) = {main_v2, main_v3, main_v4, main_arg3, main_v5, main_v6, main_arg0, main_arg1, main_arg2, main_arg4,
    main_c, main_v0, main_c_0, main_v1} by decide]
  iterate 13 rw [SparseCore.bigSep_insert' (by decide)]
  rw [bigSep_singleton]

/-- The launch's contents. -/
def V0 (d : Dev nD) : Valuation τ sig (Elt F) := fun b => m (d, b)

theorem unscoped_held (d : Dev nD) : (unscopedBufs d (fun b => m ((SparseCore.T d).loc b)) : sProp 𝕄) = held (SparseCore.T d) S14 (V0 m d) := by
  rw [unscoped_eq, held_eq]; rfl

/-- The contents the tiles' call finds, -/
def V6 (d : Dev nD) : Valuation τ sig (Elt F) :=
  opRows.result (opPad.result (opStarts.result (opStart.result (opZeroes.result (opZero.result (V0 m d))))))
/-- those it leaves, -/
def V7 (d : Dev nD) : Valuation τ sig (Elt F) := Function.update (V6 m d) (dv main_v4) (parts m d : Vec F S32x65536 .f32)
/-- and those the finishing call finds. -/
def V8 (d : Dev nD) : Valuation τ sig (Elt F) := opBias.result (V7 m d)

/-- An array no operation writes. -/
theorem V6_kept (d : Dev nD) (b : Ref sig .tc) (h1 : dv b ≠ dv main_c) (h2 : dv b ≠ dv main_v0) (h3 : dv b ≠ dv main_c_0) (h4 : dv b ≠ dv main_v1)
    (h5 : dv b ≠ dv main_v2) (h6 : dv b ≠ dv main_v3) : V6 m d (dv b) = m (loc d b) := by
  unfold V6
  rw [HloOp.result_of_not_mem _ _ (show dv b ∉ ({dv main_v3} : Finset (DevRef τ sig)) from fun h => h6 (Finset.mem_singleton.1 h)),
    HloOp.result_of_not_mem _ _ (show dv b ∉ ({dv main_v2} : Finset (DevRef τ sig)) from fun h => h5 (Finset.mem_singleton.1 h)),
    HloOp.result_of_not_mem _ _ (show dv b ∉ ({dv main_v1} : Finset (DevRef τ sig)) from fun h => h4 (Finset.mem_singleton.1 h)),
    HloOp.result_of_not_mem _ _ (show dv b ∉ ({dv main_c_0} : Finset (DevRef τ sig)) from fun h => h3 (Finset.mem_singleton.1 h)),
    HloOp.result_of_not_mem _ _ (show dv b ∉ ({dv main_v0} : Finset (DevRef τ sig)) from fun h => h2 (Finset.mem_singleton.1 h)),
    HloOp.result_of_not_mem _ _ (show dv b ∉ ({dv main_c} : Finset (DevRef τ sig)) from fun h => h1 (Finset.mem_singleton.1 h))]
  rfl

theorem V6_ids (d : Dev nD) : V6 m d (dv main_v2) = idsV m d := by
  show after [opZero, opZeroes, opStart, opStarts, opPad, opRows] (V0 m d) (dv main_v2) = _
  after_results
  funext p
  refine (written_from_start scatter_S100096_S1_S100000_0_n_0_0 rfl rfl rfl (by decide) _ _ (fun _ => rfl) _ p).trans ?_
  show _ = idw m d (p 0).val
  unfold idw
  split
  · rfl
  · rfl

theorem line_pos {N : ℕ} (p : (Line N).Idx) : p = pos (p 0).val (p 0).isLt := funext fun a => match a with | ⟨0, _⟩ => rfl

theorem V6_rows (d : Dev nD) : V6 m d (dv main_v3) = rowsV m d := by
  show after [opZero, opZeroes, opStart, opStarts, opPad, opRows] (V0 m d) (dv main_v3) = _
  after_results
  funext p
  show _ = xw m d (p 0).val
  unfold xw
  rw [dif_pos (show (p 0).val < 12800000 from (p 0).isLt)]
  exact congrArg (shapeCast S12800000 (m (loc d main_arg0) : Vec F S100000x128 .f32) shapeCasts_S100000x128_S12800000) (line_pos p)

theorem V8_bias (d : Dev nD) : V8 m d (dv main_v5) = shapeCast S1x128 (m (loc d main_arg4) : Vec F S128 .f32) shapeCasts_S128_S1x128 := by
  have h : V7 m d (dv main_arg4) = m (loc d main_arg4) :=
    (Function.update_of_ne (show dv main_arg4 ≠ dv main_v4 by decide) _ _).trans
      (V6_kept m d main_arg4 (by decide) (by decide) (by decide) (by decide) (by decide) (by decide))
  unfold V8
  rw [reshape_result, h]
  rfl

theorem V8_parts (d : Dev nD) : V8 m d (dv main_v4) = (parts m d : Vec F S32x65536 .f32) := by
  unfold V8
  rw [HloOp.result_of_not_mem _ _ (show dv main_v4 ∉ ({dv main_v5} : Finset (DevRef τ sig)) by decide)]
  exact Function.update_self _ _ _

theorem V8_kept (d : Dev nD) (b : Ref sig .tc) (h0 : dv b ≠ dv main_v4) (h7 : dv b ≠ dv main_v5) (h1 : dv b ≠ dv main_c) (h2 : dv b ≠ dv main_v0)
    (h3 : dv b ≠ dv main_c_0) (h4 : dv b ≠ dv main_v1) (h5 : dv b ≠ dv main_v2) (h6 : dv b ≠ dv main_v3) : V8 m d (dv b) = m (loc d b) := by
  unfold V8
  rw [HloOp.result_of_not_mem _ _ (show dv b ∉ ({dv main_v5} : Finset (DevRef τ sig)) from fun h => h7 (Finset.mem_singleton.1 h))]
  exact (Function.update_of_ne h0 _ _).trans (V6_kept m d b h1 h2 h3 h4 h5 h6)

/-! ## What stays and what is left -/

/-- The finishing call's four arrays. -/
def arrays (d : Dev nD) : Arrays F where
  parts := parts m d
  weights := m (loc d main_arg3)
  bias := shapeCast S1x128 (m (loc d main_arg4) : Vec F S128 .f32) shapeCasts_S128_S1x128
  result := m (loc d main_v6)

/-- The result. -/
abbrev out (d : Dev nD) : Vec F S512x128 .f32 := (arrays m d).out

/-- What @main leaves: its arguments as at the launch, and the result. -/
abbrev FIN (d : Dev nD) : sProp 𝕄 :=
  iprop(Has d main_arg0 (m (loc d main_arg0)) ∗ Has d main_arg1 (m (loc d main_arg1)) ∗ Has d main_arg2 (m (loc d main_arg2))
    ∗ Has d main_arg3 (m (loc d main_arg3)) ∗ Has d main_arg4 (m (loc d main_arg4)) ∗ Has d main_v6 (out m d))

/-- The arrays but the three the tiles' call takes. -/
abbrev Rest (d : Dev nD) (W : Valuation τ sig (Elt F)) : sProp 𝕄 :=
  iprop(Has d main_arg3 (W (dv main_arg3)) ∗ Has d main_v5 (W (dv main_v5)) ∗ Has d main_v6 (W (dv main_v6))
      ∗ Has d main_arg0 (W (dv main_arg0)) ∗ Has d main_arg1 (W (dv main_arg1)) ∗ Has d main_arg2 (W (dv main_arg2)) ∗ Has d main_arg4 (W (dv main_arg4))
      ∗ Has d main_c (W (dv main_c)) ∗ Has d main_v0 (W (dv main_v0)) ∗ Has d main_c_0 (W (dv main_c_0)) ∗ Has d main_v1 (W (dv main_v1)))

theorem split6 (d : Dev nD) : (held (SparseCore.T d) S14 (V6 m d) : sProp 𝕄)
    ⊢ iprop(kept m d ∗ (bigSep Finset.univ fun c : Fin ((K (F := F)).nCore 0) => (P m).st 0 d c) ∗ Rest d (V6 m d)) := by
  rw [held_eq, V6_ids, V6_rows, V6_kept m d main_v4 (by decide) (by decide) (by decide) (by decide) (by decide) (by decide)]
  have e : (bigSep Finset.univ fun c : Fin ((K (F := F)).nCore 0) => (P m).st 0 d c)
      = (bigSep Finset.univ fun w : Fin 32 => piece m d (m (loc d main_v4)) w : sProp 𝕄) :=
    bigSep_pairs (F := F) fun w => piece m d (m (loc d main_v4)) w
  rw [e]
  iintro ⟨H2, H3, H4, HR⟩
  ihave H := (deal m d (m (loc d main_v4))) $$ [H2 H3 H4]
  · isplitl [H2]; · iexact H2
    isplitl [H3]; · iexact H3
    iexact H4
  icases H with ⟨Hk, Hp⟩
  isplitl [Hk]; · iexact Hk
  isplitl [Hp]; · iexact Hp
  iexact HR

theorem rest_V7 (d : Dev nD) : (Rest d (V6 m d) : sProp 𝕄) = Rest d (V7 m d) := by
  have h : ∀ b : Ref sig .tc, dv b ≠ dv main_v4 → V7 m d (dv b) = V6 m d (dv b) := fun b h => Function.update_of_ne h _ _
  unfold Rest
  rw [h main_arg3 (by decide), h main_v5 (by decide), h main_v6 (by decide), h main_arg0 (by decide), h main_arg1 (by decide), h main_arg2 (by decide),
    h main_arg4 (by decide), h main_c (by decide), h main_v0 (by decide), h main_c_0 (by decide), h main_v1 (by decide)]

theorem join7 (d : Dev nD) : (iprop(kept m d ∗ (bigSep Finset.univ fun c : Fin ((K (F := F)).nCore 0) => (P m).dn 0 d c) ∗ Rest d (V6 m d)) : sProp 𝕄)
    ⊢ held (SparseCore.T d) S14 (V7 m d) := by
  have h2 : V7 m d (dv main_v2) = idsV m d := (Function.update_of_ne (show dv main_v2 ≠ dv main_v4 by decide) _ _).trans (V6_ids m d)
  have h3 : V7 m d (dv main_v3) = rowsV m d := (Function.update_of_ne (show dv main_v3 ≠ dv main_v4 by decide) _ _).trans (V6_rows m d)
  have h4 : V7 m d (dv main_v4) = (parts m d : Vec F S32x65536 .f32) := Function.update_self _ _ _
  rw [held_eq, rest_V7, h2, h3, h4]
  have e : (bigSep Finset.univ fun c : Fin ((K (F := F)).nCore 0) => (P m).dn 0 d c)
      = (bigSep Finset.univ fun w : Fin 32 => piece m d (parts m d) w : sProp 𝕄) :=
    bigSep_pairs (F := F) fun w => piece m d (parts m d) w
  rw [e]
  iintro ⟨Hk, Hp, HR⟩
  ihave H := (gather m d (parts m d)) $$ [Hk Hp]
  · isplitl [Hk]; · iexact Hk
    iexact Hp
  icases H with ⟨H2, H3, H4⟩
  isplitl [H2]; · iexact H2
  isplitl [H3]; · iexact H3
  isplitl [H4]; · iexact H4
  iexact HR

/-- The finishing call's arrays, and the other arguments. -/
theorem split8 (d : Dev nD) : (held (SparseCore.T d) S14 (V8 m d) : sProp 𝕄)
    ⊢ iprop(Four d (arrays m d).parts (arrays m d).weights (arrays m d).bias (arrays m d).result
        ∗ Has d main_arg0 (m (loc d main_arg0)) ∗ Has d main_arg1 (m (loc d main_arg1)) ∗ Has d main_arg2 (m (loc d main_arg2)) ∗ Has d main_arg4 (m (loc d main_arg4))) := by
  have h := fun b h0 h7 h1 h2 h3 h4 h5 h6 => V8_kept m d b h0 h7 h1 h2 h3 h4 h5 h6
  rw [held_eq, V8_parts, V8_bias, h main_arg3 (by decide) (by decide) (by decide) (by decide) (by decide) (by decide) (by decide) (by decide),
    h main_v6 (by decide) (by decide) (by decide) (by decide) (by decide) (by decide) (by decide) (by decide),
    h main_arg0 (by decide) (by decide) (by decide) (by decide) (by decide) (by decide) (by decide) (by decide),
    h main_arg1 (by decide) (by decide) (by decide) (by decide) (by decide) (by decide) (by decide) (by decide),
    h main_arg2 (by decide) (by decide) (by decide) (by decide) (by decide) (by decide) (by decide) (by decide),
    h main_arg4 (by decide) (by decide) (by decide) (by decide) (by decide) (by decide) (by decide) (by decide)]
  unfold arrays; dsimp only
  iintro ⟨-, -, H4, Ha3, H5, H6, Ha0, Ha1, Ha2, Ha4, -⟩
  isplitl [H4 Ha3 H5 H6]
  · isplitl [H4]; · iexact H4
    isplitl [Ha3]; · iexact Ha3
    isplitl [H5]; · iexact H5
    iexact H6
  isplitl [Ha0]; · iexact Ha0
  isplitl [Ha1]; · iexact Ha1
  isplitl [Ha2]; · iexact Ha2
  iexact Ha4

/-- The TensorCore's state after the one call: it owes nothing; the rest put back when it is handed back. -/
theorem idle_after (d : Dev nD) : ((K (F := F)).tcSt (EH (F := F)) d 1 : sProp 𝕄) ⊢ iprop(Idle d ∗ (Idle d -∗ (K (F := F)).tcSt (EH (F := F)) d 1)) := by
  unfold SparseCore.Cfg.tcSt
  have hO : (K (F := F)).Otc d 1 = 0 := by
    unfold SparseCore.Cfg.Otc
    exact Finset.sum_eq_zero fun q _ => if_neg (by have := q.isLt; omega)
  rw [hO]
  iintro ⟨Hi, HR⟩
  isplitl [Hi]; · iexact Hi
  iintro Hi
  isplitl [Hi]; · iexact Hi
  iexact HR

/-! ## @main -/

theorem hmain [∀ e, Nonempty (Elt F e)] (κ : GSem nD τ sig → ℕ) (d : Dev nD) :
    iprop((K (F := F)).ctx (EH (F := F)) (P m) κ ∗ (K (F := F)).tcSt (EH (F := F)) d 0 ∗ (K (F := F)).tcRes m ρ d ∗ Dealt d)
      ⊢ wp frame (wpE ((K (F := F)).defs (D (F := F))) 𝒱 (SparseCore.T d) none) Set.univ (main d)
          fun _ => iprop((K (F := F)).tcSt (EH (F := F)) d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HD⟩
  iapply (wp_hlo_within 𝒱 (SparseCore.T d) none Set.univ (op := opZero) (S := S14) (show ({dv main_c} : Finset (DevRef τ sig)) ⊆ S14 by decide) (V := V0 m d)) $$ [Hb Hheld]
  · isplitl [Hb] <;> iassumption
  iintro ⟨Hb, Hheld⟩
  rw [wp_ret]; imodintro
  iapply (wp_hlo_within 𝒱 (SparseCore.T d) none Set.univ (op := opZeroes) (S := S14) (show ({dv main_c, dv main_v0} : Finset (DevRef τ sig)) ⊆ S14 by decide)) $$ [Hb Hheld]
  · isplitl [Hb] <;> iassumption
  iintro ⟨Hb, Hheld⟩
  rw [wp_ret]; imodintro
  iapply (wp_hlo_within 𝒱 (SparseCore.T d) none Set.univ (op := opStart) (S := S14) (show ({dv main_c_0} : Finset (DevRef τ sig)) ⊆ S14 by decide)) $$ [Hb Hheld]
  · isplitl [Hb] <;> iassumption
  iintro ⟨Hb, Hheld⟩
  rw [wp_ret]; imodintro
  iapply (wp_hlo_within 𝒱 (SparseCore.T d) none Set.univ (op := opStarts) (S := S14) (show ({dv main_c_0, dv main_v1} : Finset (DevRef τ sig)) ⊆ S14 by decide)) $$ [Hb Hheld]
  · isplitl [Hb] <;> iassumption
  iintro ⟨Hb, Hheld⟩
  rw [wp_ret]; imodintro
  iapply (wp_hlo_within 𝒱 (SparseCore.T d) none Set.univ (op := opPad) (S := S14) (show ({dv main_v0, dv main_v1, dv main_arg2, dv main_v2} : Finset (DevRef τ sig)) ⊆ S14 by decide)) $$ [Hb Hheld]
  · isplitl [Hb] <;> iassumption
  iintro ⟨Hb, Hheld⟩
  rw [wp_ret]; imodintro
  iapply (wp_hlo_within 𝒱 (SparseCore.T d) none Set.univ (op := opRows) (S := S14) (show ({dv main_arg0, dv main_v3} : Finset (DevRef τ sig)) ⊆ S14 by decide)) $$ [Hb Hheld]
  · isplitl [Hb] <;> iassumption
  iintro ⟨Hb, Hheld⟩
  rw [wp_ret]; imodintro
  ihave H := (split6 m d) $$ [Hheld]
  · iexact Hheld
  icases H with ⟨Hk, Hp, HR⟩
  iapply ((K (F := F)).wp_run (D (F := F)) 𝒱 (EH := EH (F := F)) (P := P m) κ d 0)
  isplitr; · iexact Hctx
  isplitl [Hst]; · iexact Hst
  isplitl [Hp]; · iexact Hp
  iintro ⟨Hst, Hp⟩
  ihave Hheld := (join7 m d) $$ [Hk Hp HR]
  · isplitl [Hk]; · iexact Hk
    isplitl [Hp]; · iexact Hp
    iexact HR
  iapply (wp_hlo_within 𝒱 (SparseCore.T d) none Set.univ (op := opBias) (S := S14) (show ({dv main_arg4, dv main_v5} : Finset (DevRef τ sig)) ⊆ S14 by decide) (V := V7 m d)) $$ [Hb Hheld]
  · isplitl [Hb] <;> iassumption
  iintro ⟨Hb, Hheld⟩
  rw [wp_ret]; imodintro
  ihave H := (split8 m d) $$ [Hheld]
  · iexact Hheld
  icases H with ⟨H4, Ha0, Ha1, Ha2, Ha4⟩
  ihave H := (idle_after (F := F) d) $$ [Hst]
  · iexact Hst
  icases H with ⟨HI, Hback⟩
  iapply (finish_call (arrays m) d)
  isplitl [Hb]; · iexact Hb
  isplitl [H4 HI]
  · isplitl [H4]; · iexact H4
    iexact HI
  isplitr
  · iapply ((K (F := F)).ctx_levAts κ); iexact Hctx
  isplitl [HD]; · iexact HD
  iintro ⟨Hb, ⟨-, Ha3, -, H6⟩, HI⟩
  imodintro
  isplitl [Hback HI]
  · iapply Hback; iexact HI
  isplitr [Hb Hts]
  · isplitl [Ha0]; · iexact Ha0
    isplitl [Ha1]; · iexact Ha1
    isplitl [Ha2]; · iexact Ha2
    isplitl [Ha3]; · iexact Ha3
    isplitl [Ha4]; · iexact Ha4
    iexact H6
  isplitl [Hb] <;> iassumption

/-! ## The launch's ghost state -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem own_split (a : UH) (b : UP) : (ownU ((a, (b, (1 : Counters))) : UU) : sProp 𝕄) ⊢ iprop(BI.own ((EH (F := F)) a) ∗ BI.own ((EB (F := F)) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem hu₀ : (ownU (u₀ (F := F)) : sProp 𝕄)
    ⊢ |={Set.univ}=> iprop(BI.own ((EH (F := F)) (initOf (K (F := F)).hsCells (K (F := F)).hsToks)) ∗ (bigSep Finset.univ fun d : Dev nD => Dealt (F := F) d)
        ∗ bigSep Finset.univ fun thr : Thread nD τ => bigSep Finset.univ fun q : Fin 1 => (P m).x q thr) := by
  unfold u₀
  have hx : (bigSep Finset.univ fun thr : Thread nD τ => bigSep Finset.univ fun q : Fin 1 => (P m).x q thr) = (iprop(emp) : sProp 𝕄) := by
    have h1 : (bigSep Finset.univ fun _ : Fin 1 => (iprop(emp) : sProp 𝕄)) = iprop(emp) := bigSep_emp_const _
    refine (bigSep_congr (Ψ := fun _ : Thread nD τ => (iprop(emp) : sProp 𝕄)) fun _ _ => ?_).trans (bigSep_emp_const _)
    exact h1
  rw [hx]
  iintro Hu
  ihave H := (own_split (F := F) _ _) $$ Hu
  icases H with ⟨HH, HB⟩
  ihave HB := (Pipeline.fund_ghost (Pipeline.pin (pcfgs (F := F)) adm) (EB (F := F)) cellOf_inj) $$ HB
  imod HB with HB
  imodintro
  isplitl [HH]; · iexact HH
  isplitl [HB]
  · rw [show (bigSep Finset.univ fun d : Dev nD => Dealt (F := F) d) = _ from bigSep_sep' _ _ _]
    rw [bigSep_congr fun c _ => bigSep_univ_of_subsingleton (0 : Fin 1), bigSep_congr fun c _ => bigSep_univ_of_subsingleton (0 : Fin 1)]
    iexact HB
  iempintro

/-! ## The run -/

def fq (d : Dev nD) (s' : Phys nD τ sig (Elt F)) : Prop :=
  s'.mem.mem (loc d main_arg0) = m (loc d main_arg0) ∧ s'.mem.mem (loc d main_arg1) = m (loc d main_arg1) ∧ s'.mem.mem (loc d main_arg2) = m (loc d main_arg2)
    ∧ s'.mem.mem (loc d main_arg3) = m (loc d main_arg3) ∧ s'.mem.mem (loc d main_arg4) = m (loc d main_arg4) ∧ s'.mem.mem (loc d main_v6) = out m d

theorem has_agree (d : Dev nD) (b : Ref sig .tc) (f : Buf (Elt F) (loc d b)) (s' : Phys nD τ sig (Elt F)) :
    iprop(Has d b f ∗ SI s') ⊢ (iprop(⌜s'.mem.mem (loc d b) = f⌝) : sProp 𝕄) := by
  iintro ⟨Hx, HSI⟩
  ihave H := (SI_pointsTo_agree (st := s') (ℓ := loc d b) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have h0 : iprop(FIN m d ∗ SI s') ⊢ (iprop(⌜s'.mem.mem (loc d main_arg0) = m (loc d main_arg0)⌝) : sProp 𝕄) := by
    iintro ⟨⟨H, -⟩, HS⟩; iapply (has_agree d main_arg0 _ s'); isplitl [H] <;> iassumption
  have h1 : iprop(FIN m d ∗ SI s') ⊢ (iprop(⌜s'.mem.mem (loc d main_arg1) = m (loc d main_arg1)⌝) : sProp 𝕄) := by
    iintro ⟨⟨-, H, -⟩, HS⟩; iapply (has_agree d main_arg1 _ s'); isplitl [H] <;> iassumption
  have h2 : iprop(FIN m d ∗ SI s') ⊢ (iprop(⌜s'.mem.mem (loc d main_arg2) = m (loc d main_arg2)⌝) : sProp 𝕄) := by
    iintro ⟨⟨-, -, H, -⟩, HS⟩; iapply (has_agree d main_arg2 _ s'); isplitl [H] <;> iassumption
  have h3 : iprop(FIN m d ∗ SI s') ⊢ (iprop(⌜s'.mem.mem (loc d main_arg3) = m (loc d main_arg3)⌝) : sProp 𝕄) := by
    iintro ⟨⟨-, -, -, H, -⟩, HS⟩; iapply (has_agree d main_arg3 _ s'); isplitl [H] <;> iassumption
  have h4 : iprop(FIN m d ∗ SI s') ⊢ (iprop(⌜s'.mem.mem (loc d main_arg4) = m (loc d main_arg4)⌝) : sProp 𝕄) := by
    iintro ⟨⟨-, -, -, -, H, -⟩, HS⟩; iapply (has_agree d main_arg4 _ s'); isplitl [H] <;> iassumption
  have h6 : iprop(FIN m d ∗ SI s') ⊢ (iprop(⌜s'.mem.mem (loc d main_v6) = out m d⌝) : sProp 𝕄) := by
    iintro ⟨⟨-, -, -, -, -, H⟩, HS⟩; iapply (has_agree d main_v6 _ s'); isplitl [H] <;> iassumption
  intro x hx
  exact ⟨h0 x hx, h1 x hx, h2 x hx, h3 x hx, h4 x hx, h6 x hx⟩

def QC : PUnit × MemSt nD τ sig (Elt F) → Prop := fun r =>
  (∀ c : Dev nD, r.2.mem (loc c main_arg0) = m (loc c main_arg0) ∧ r.2.mem (loc c main_arg1) = m (loc c main_arg1) ∧ r.2.mem (loc c main_arg2) = m (loc c main_arg2)
    ∧ r.2.mem (loc c main_arg3) = m (loc c main_arg3) ∧ r.2.mem (loc c main_arg4) = m (loc c main_arg4) ∧ r.2.mem (loc c main_v6) = out m c)
    ∧ r.2.sem = fun _ => 0

theorem run_main [∀ e, Nonempty (Elt F e)] (hid : ∀ d n, (idw m d n).toNat < 512) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH (F := F)) (P := P m) (A := ∅) facts v₀
    (fun q hq => match q with | 0 => nomatch hq)
    (fun q _ => match q with | 0 => tileObl m hid)
    (fun q _ => match q with | 0 => SparseCore.Cfg.VecSplit.of_plain (vecSplit m))
    m ρ main (fun d => Dealt d) (FIN m) (u₀ (F := F)) (sep_elim_left.trans (hu₀ m)) (hmain m ρ) (fq m) (hfin m) (QC m) (fun _ h hz => ⟨h, hz⟩)

end Cert.Proof.OnIdeal

end
-- ==== Proof.GroupSums.lean ====
/-
  The tiles' running sums over the extended reals: added up over the tiles, word `128 g + c` is the sum of column `c` of the node rows
  of group `g`.
-/
module

public import proofs.«01_k».proof.Proof.Segments
public import Idealize.ShloMosaic.Lib.Pointwise

@[expose] public section

noncomputable section

namespace Cert.Proof.Segments

open Idealize.ShloMosaic

/-- Word `p` of a tile's sums: its group's rows' words added. -/
theorem cell_eq (ids : ℕ → ℕ) (x : ℕ → EReal) (lo p : ℕ) : ∀ n : ℕ,
    (cell (F := Ideal) ids x lo n p : EReal) = ∑ i ∈ Finset.range n, if ids (lo + i) = p / 128 then x (128 * (lo + i) + p % 128) else 0
  | 0 => by
    rw [Finset.range_zero, Finset.sum_empty]
    exact Ideal.ofBits_zero_f32
  | n + 1 => by
    rw [Finset.sum_range_succ, ← cell_eq ids x lo p n]
    show (if ids (lo + n) = p / 128 then (cell (F := Ideal) ids x lo n p : EReal) + x (128 * (lo + n) + p % 128) else cell (F := Ideal) ids x lo n p) = _
    split
    · rfl
    · exact (add_zero _).symm

/-- A sum over `a` stretches of `b` is the sum over the whole. -/
theorem sum_stretches (f : ℕ → EReal) (b : ℕ) : ∀ a : ℕ,
    (∑ w ∈ Finset.range a, ∑ i ∈ Finset.range b, f (b * w + i)) = ∑ n ∈ Finset.range (b * a), f n
  | 0 => by simp
  | a + 1 => by rw [Finset.sum_range_succ, sum_stretches f b a, Nat.mul_succ, Finset.sum_range_add]

/-- The tiles' stretches, the last one short, cover the node rows. -/
theorem sum_tiles (f : ℕ → EReal) :
    (∑ w : Fin 32, ∑ i ∈ Finset.range (min 3128 (100000 - 3128 * w.val)), f (3128 * w.val + i)) = ∑ n ∈ Finset.range 100000, f n := by
  let g : ℕ → EReal := fun n => if n < 100000 then f n else 0
  have hin : ∀ w : ℕ, w < 32 → (∑ i ∈ Finset.range (min 3128 (100000 - 3128 * w)), f (3128 * w + i)) = ∑ i ∈ Finset.range 3128, g (3128 * w + i) := by
    intro w hw
    have hsub : Finset.range (min 3128 (100000 - 3128 * w)) ⊆ Finset.range 3128 := Finset.range_subset_range.2 (Nat.min_le_left _ _)
    rw [← Finset.sum_subset hsub (fun i hi hn => ?_)]
    · refine Finset.sum_congr rfl fun i hi => ?_
      rw [Finset.mem_range] at hi
      exact (if_pos (by omega)).symm
    · rw [Finset.mem_range] at hi hn
      exact if_neg (by omega)
  have hall : (∑ n ∈ Finset.range 100000, f n) = ∑ n ∈ Finset.range (3128 * 32), g n := by
    have hsub : Finset.range 100000 ⊆ Finset.range (3128 * 32) := Finset.range_subset_range.2 (by omega)
    rw [← Finset.sum_subset hsub (fun i hi hn => ?_)]
    · refine Finset.sum_congr rfl fun i hi => ?_
      rw [Finset.mem_range] at hi
      exact (if_pos hi).symm
    · rw [Finset.mem_range] at hn
      exact if_neg hn
  rw [hall, ← sum_stretches g 3128 32, Finset.sum_range]
  exact Finset.sum_congr rfl fun w _ => hin w.val w.isLt

/-- The tiles' sums of group `g` in column `c`, added up. -/
theorem cells_sum (ids : ℕ → ℕ) (x : ℕ → EReal) (g c : ℕ) (hc : c < 128) :
    (∑ w : Fin 32, (cell (F := Ideal) ids x (3128 * w.val) (min 3128 (100000 - 3128 * w.val)) (128 * g + c) : EReal))
      = ∑ n ∈ Finset.range 100000, if ids n = g then x (128 * n + c) else 0 := by
  rw [← sum_tiles]
  refine Finset.sum_congr rfl fun w _ => ?_
  rw [cell_eq, show (128 * g + c) / 128 = g by omega, show (128 * g + c) % 128 = c by omega]

end Cert.Proof.Segments

end
-- ==== Proof.ValueIdeal.lean ====
/-
  The two results over the extended reals: the kernel's, read at row `r` and column `l`, and the reference's, are the same sum.
-/
module

public import proofs.«01_k».proof.Proof.MainIdeal
public import proofs.«01_k».proof.Proof.GroupSums
public import proofs.«01_k».proof.Proof.Gen.ReferenceIdeal.Run
public import Idealize.ShloMosaic.Lib.Pointwise
public import Idealize.ShloMosaic.Lib.Routing.OpsPair

@[expose] public section

set_option maxRecDepth 16384

noncomputable section

namespace Cert.Proof.Value

open Cert.Proof.Segments
open Idealize.ShloMosaic

/-- The group sum of column `k` over group `r`. -/
def groupSum (x : Vec Ideal (⟨2, ![100000, 128]⟩ : Shape) .f32) (ids : IVec (⟨1, ![100000]⟩ : Shape) 32) (r : Fin 512) (k : Fin 128) : EReal :=
  ∑ n : Fin 100000, if (ids (ix1 n)).toNat = r.val then x (ix2 n k) else 0

/-! ## The reference's -/

section Reference

open Cert.ReferenceIdeal Cert.ReferenceIdeal.Gen

/-- Where the reference's scatter adds node row `n`'s column `c`: in its group's row, in that column. -/
theorem lands_group (idx : IVec S100000x1 32) (n : Fin 100000) (c : Fin 128) (r : Fin 512) (k : Fin 128) :
    scatter_S512x128_S100000x1_S100000x128_1_0_0_1.resultIdx? (ix2 n c) idx = some (ix2 r k)
      ↔ (idx (ix2 n 0)).toNat = r.val ∧ c = k := by
  have h := Routing.resultIdx?_eq_some scatter_S512x128_S100000x1_S100000x128_1_0_0_1 (ix2 n c) idx (ix2 r k)
  have hs0 : scatter_S512x128_S100000x1_S100000x128_1_0_0_1.start (ix2 n c) idx 0 = (idx (ix2 n 0)).toInt := by
    unfold ScatterDims.start
    rw [dif_pos (by decide)]
    refine congrArg (fun i => (idx i).toInt) (funext fun a => ?_)
    match a with
    | ⟨0, _⟩ => rfl
    | ⟨1, _⟩ => exact Subsingleton.elim (α := Fin 1) _ _
  have hs1 : scatter_S512x128_S100000x1_S100000x128_1_0_0_1.start (ix2 n c) idx 1 = 0 := by
    unfold ScatterDims.start
    exact dif_neg (by decide)
  have hw0 : scatter_S512x128_S100000x1_S100000x128_1_0_0_1.window (ix2 n c) 0 = 0 := by
    unfold ScatterDims.window
    exact dif_neg (by decide)
  have hw1 : scatter_S512x128_S100000x1_S100000x128_1_0_0_1.window (ix2 n c) 1 = c.val := by
    unfold ScatterDims.window
    rw [dif_pos (by decide)]
    rfl
  have hr := r.isLt
  have hlt := (idx (ix2 n 0)).isLt
  rw [h]
  constructor
  · intro e
    have e0 := e 0
    have e1 := e 1
    rw [hs0, hw0] at e0
    rw [hs1, hw1] at e1
    change (idx (ix2 n 0)).toInt + ((0 : ℕ) : Int) = (r.val : Int) at e0
    change (0 : Int) + (c.val : Int) = (k.val : Int) at e1
    rw [BitVec.toInt_eq_toNat_cond] at e0
    refine ⟨?_, Fin.ext (by omega)⟩
    split at e0 <;> omega
  · rintro ⟨e0, rfl⟩ a
    match a with
    | ⟨0, _⟩ =>
      show scatter_S512x128_S100000x1_S100000x128_1_0_0_1.start (ix2 n c) idx 0 + (scatter_S512x128_S100000x1_S100000x128_1_0_0_1.window (ix2 n c) 0 : Int) = (r.val : Int)
      rw [hs0, hw0, BitVec.toInt_eq_toNat_cond, if_pos (by omega), e0]; simp
    | ⟨1, _⟩ =>
      show scatter_S512x128_S100000x1_S100000x128_1_0_0_1.start (ix2 n c) idx 1 + (scatter_S512x128_S100000x1_S100000x128_1_0_0_1.window (ix2 n c) 1 : Int) = (c.val : Int)
      rw [hs1, hw1]; simp

/-- The reference's accumulated groups. -/
theorem scattered (z : Vec Ideal S512x128 .f32) (hz : ∀ i, z i = (0 : EReal)) (idx : IVec S100000x1 32) (x : Vec Ideal S100000x128 .f32) (r : Fin 512) (k : Fin 128) :
    (Host.scatterAdd (F := Ideal) (φ := .f32) scatter_S512x128_S100000x1_S100000x128_1_0_0_1 z idx x (ix2 r k) : EReal)
      = ∑ n : Fin 100000, if (idx (ix2 n 0)).toNat = r.val then x (ix2 n k) else (0 : EReal) := by
  show (z (ix2 r k) : EReal) + ∑ j ∈ Finset.univ.filter (fun j => scatter_S512x128_S100000x1_S100000x128_1_0_0_1.resultIdx? j idx = some (ix2 r k)), (x j : EReal) = _
  rw [hz, zero_add, Finset.sum_filter, sum_idx2]
  refine Finset.sum_congr rfl fun n _ => ?_
  by_cases h : (idx (ix2 n 0)).toNat = r.val
  · rw [if_pos h, Finset.sum_eq_single k]
    · exact if_pos ((lands_group idx n k r k).2 ⟨h, rfl⟩)
    · intro c _ hc
      exact if_neg fun e => hc ((lands_group idx n c r k).1 e).2
    · intro e; exact absurd (Finset.mem_univ k) e
  · rw [if_neg h]
    exact Finset.sum_eq_zero fun c _ => if_neg fun e => h ((lands_group idx n c r k).1 e).1

/-- The reference's result, from its arguments. -/
abbrev refOut (x : FVec Ideal S100000x128 .f32) (ids : IVec S100000 32) (w : FVec Ideal S128x128 .f32) (b : FVec Ideal S128 .f32) : FVec Ideal S512x128 .f32 :=
  addf (Host.dotGeneral (φ₁ := .f32) (φ₂ := .f32) dot_S512x128_S128x128_S512x128_1_0_0_1_n_n none
      (Host.scatterAdd scatter_S512x128_S100000x1_S100000x128_1_0_0_1 (broadcastInDim S512x128 ![] bcast_S_S512x128 (constant S_ .f32 0x00000000#32))
        (broadcastInDim S100000x1 ![0] bcast_S100000_S100000x1_0 ids) x)
      (transpose S128x128 [1, 0] w transposes_S128x128_S128x128_1_0))
    (broadcastInDim S512x128 ![0, 1] bcast_S1x128_S512x128_0_1 (broadcastInDim S1x128 ![1] bcast_S128_S1x128_1 b))

/-- The reference's result at row `r`, column `l`. -/
theorem reference_at (x : FVec Ideal S100000x128 .f32) (ids : IVec S100000 32) (w : FVec Ideal S128x128 .f32) (b : FVec Ideal S128 .f32) (r : Fin 512) (l : Fin 128) :
    (refOut x ids w b (ix2 r l) : EReal) = (∑ k : Fin 128, groupSum x ids r k * (w (ix2 l k) : EReal)) + b (ix1 l) := by
  have hz : ∀ i, ((broadcastInDim S512x128 ![] bcast_S_S512x128 (constant S_ .f32 0x00000000#32) : FVec Ideal S512x128 .f32) i : EReal) = 0 := fun i => Ideal.ofBits_zero_f32
  unfold refOut
  generalize (broadcastInDim S512x128 ![] bcast_S_S512x128 (constant S_ .f32 0x00000000#32) : FVec Ideal S512x128 .f32) = Z at hz ⊢
  have hg : ∀ k : Fin 128, (Host.scatterAdd (F := Ideal) (φ := .f32) scatter_S512x128_S100000x1_S100000x128_1_0_0_1 Z
          (broadcastInDim S100000x1 ![0] bcast_S100000_S100000x1_0 ids) x (ix2 r k) : EReal) = groupSum x ids r k := by
    intro k
    rw [scattered Z hz]
    unfold groupSum
    refine Finset.sum_congr rfl fun n _ => ?_
    have e : broadcastInDim S100000x1 ![0] bcast_S100000_S100000x1_0 ids (ix2 n 0) = ids (ix1 n) := by pointwise
    rw [e]
  generalize Host.scatterAdd (F := Ideal) (φ := .f32) scatter_S512x128_S100000x1_S100000x128_1_0_0_1 Z
          (broadcastInDim S100000x1 ![0] bcast_S100000_S100000x1_0 ids) x = G at hg ⊢
  pointwise
  simp only [hg]

end Reference

/-! ## The kernel's -/

section Kernel

open Cert.KernelIdeal Cert.KernelIdeal.Gen
open Cert.Proof.OnIdeal

/-- The kernel's result at row `r`, column `l`, from the partial sums. -/
theorem finish_at (p : Vec Ideal S32x65536 .f32) (w : Vec Ideal S128x128 .f32) (b : Vec Ideal S1x128 .f32) (r : Fin 512) (l : Fin 128) :
    (k1_pay1 (F := Ideal) p w b (ix2 r l) : EReal)
      = (∑ k : Fin 128, (∑ t : Fin 32, (p (ix2 t ⟨r.val * 128 + k.val, by have := r.isLt; have := k.isLt; omega⟩) : EReal)) * (w (ix2 l k) : EReal)) + b (ix2 0 l) := by
  pointwise [k1_pay1]

variable (m : (ℓ : Loc nD τ sig) → Buf (Elt Ideal) ℓ)

/-- Node row `n`'s column `k`, as the tiles find it in the line of all the rows. -/
theorem row_word (d : Dev nD) (n : Fin 100000) (k : Fin 128) :
    xw m d (128 * n.val + k.val) = (m (loc d main_arg0) : Vec Ideal S100000x128 .f32) (ix2 n k) := by
  have hn := n.isLt
  have hk := k.isLt
  unfold xw
  rw [dif_pos (show 128 * n.val + k.val < 12800000 by omega)]
  generalize (m (loc d main_arg0) : Vec Ideal S100000x128 .f32) = X
  have e : pos (N := 12800000) (128 * n.val + k.val) (by omega) = ix1 (⟨128 * n.val + k.val, by omega⟩ : Fin 12800000) :=
    funext fun a => match a with | ⟨0, _⟩ => rfl
  rw [e]
  have h : shapeCast S12800000 X shapeCasts_S100000x128_S12800000 (ix1 (⟨128 * n.val + k.val, by omega⟩ : Fin 12800000))
      = X (ix2 n k) := by
    pointwise
  exact h

/-- The tiles' sums are the group sums. -/
theorem parts_sum (d : Dev nD) (r : Fin 512) (k : Fin 128) :
    (∑ t : Fin 32, (parts m d (ix2 t ⟨r.val * 128 + k.val, by have := r.isLt; have := k.isLt; omega⟩) : EReal))
      = groupSum (m (loc d main_arg0)) (m (loc d main_arg2)) r k := by
  have h := cells_sum (fun n => (idw m d n).toNat) (fun n => (xw m d n : EReal)) r.val k.val k.isLt
  refine Eq.trans (Finset.sum_congr rfl fun t _ => ?_) (h.trans ?_)
  · rw [Nat.mul_comm 128 r.val]; rfl
  · rw [Finset.sum_range]
    unfold groupSum
    refine Finset.sum_congr rfl fun n _ => ?_
    rw [row_word]
    have e : idw m d n.val = (m (loc d main_arg2) : Vec Ideal S100000 .i32) (ix1 n) := by
      unfold idw
      rw [dif_pos n.isLt]
      exact congrArg (m (loc d main_arg2) : Vec Ideal S100000 .i32) (funext fun a => match a with | ⟨0, _⟩ => rfl)
    rw [e]

/-- The kernel's result is the reference's. -/
theorem out_eq (d : Dev nD) :
    out m d = refOut (m (loc d main_arg0)) (m (loc d main_arg2)) (m (loc d main_arg3)) (m (loc d main_arg4)) := by
  funext j
  obtain ⟨r, l, rfl⟩ : ∃ (r : Fin 512) (l : Fin 128), j = ix2 r l := ⟨j 0, j 1, eq_ix2 j⟩
  refine (finish_at _ _ _ r l).trans (Eq.trans ?_ (reference_at _ _ _ _ r l).symm)
  have hb : ((arrays m d).bias (ix2 0 l) : EReal) = (m (loc d main_arg4) : Vec Ideal S128 .f32) (ix1 l) := by
    unfold arrays; dsimp only
    generalize (m (loc d main_arg4) : Vec Ideal S128 .f32) = B
    pointwise
  have hs : (∑ k : Fin 128, (∑ t : Fin 32, ((arrays m d).parts (ix2 t ⟨r.val * 128 + k.val, by have := r.isLt; have := k.isLt; omega⟩) : EReal)) * ((arrays m d).weights (ix2 l k) : EReal))
      = ∑ k : Fin 128, groupSum (m (loc d main_arg0)) (m (loc d main_arg2)) r k * ((m (loc d main_arg3) : Vec Ideal S128x128 .f32) (ix2 l k) : EReal) :=
    Finset.sum_congr rfl fun k _ => congrArg (· * ((m (loc d main_arg3) : Vec Ideal S128x128 .f32) (ix2 l k) : EReal)) (parts_sum m d r k)
  rw [hs, hb]

end Kernel

end Cert.Proof.Value

end
-- ==== Proof.lean ====
/-
  The claims of Defs.lean: the kernel's run at the words and over the extended reals (Proof/MainBits.lean, Proof/MainIdeal.lean), the
  reference's (Proof/Gen/ReferenceIdeal/Run.lean), and the two results equal over the extended reals (Proof/ValueIdeal.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_range
public import proofs.«01_k».proof.Proof.MainBits
public import proofs.«01_k».proof.Proof.Range
public import proofs.«01_k».proof.Proof.ValueIdeal
public import Idealize.ShloMosaic.Adequacy
public import Idealize.ShloMosaic.Init

@[expose] public section

noncomputable section

namespace Cert.Proof

open Idealize.ShloMosaic Idealize.SL.Sem

/-- The padded ids are in range: the launch's by the precondition, the padding because it is zero. -/
theorem idw_bits (m : (ℓ : Loc Cert.Kernel.nD Cert.Kernel.τ Cert.Kernel.sig) → Buf (Elt Bits) ℓ)
    (h : Cert.Pre_Kernel m) (d : Dev Cert.Kernel.nD) (n : ℕ) : (OnBits.idw m d n).toNat < 512 := by
  unfold OnBits.idw
  split
  · exact ids_in_range _ _ _ _ _ (h d) _
  · decide

theorem idw_ideal (m : (ℓ : Loc Cert.KernelIdeal.nD Cert.KernelIdeal.τ Cert.KernelIdeal.sig) → Buf (Elt Ideal) ℓ)
    (h : Cert.Pre_KernelIdeal m) (d : Dev Cert.KernelIdeal.nD) (n : ℕ) : (OnIdeal.idw m d n).toNat < 512 := by
  unfold OnIdeal.idw
  split
  · exact ids_in_range _ _ _ _ _ (h d) _
  · decide

/-- The kernel's frame, at the words, -/
theorem frame_bits : Cert.quiescent_Kernel := fun m ρ hpre =>
  (θ_run Cert.Kernel.defs _ _).mono
    (fun _ h => ⟨fun c => ⟨(h.1 c).1, (h.1 c).2.1, (h.1 c).2.2.1, (h.1 c).2.2.2.1, (h.1 c).2.2.2.2.1⟩, h.2⟩)
    (OnBits.run_main (F := Bits) m ρ (idw_bits m hpre))

/-- and over the extended reals. -/
theorem frame_ideal : Cert.quiescent_KernelIdeal := fun m ρ hpre =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (OnIdeal.run_main (F := Ideal) m ρ (idw_ideal m hpre))

/-- The reference's frame: it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_ids_in_range := fun m ρ _ => frame_reference m ρ trivial

/-- The kernel's result and the reference's are equal over the extended reals. -/
theorem algebraic : Cert.algebraic_KernelIdeal_ReferenceIdeal := by
  intro m ρ m' ρ' hpre hagree
  refine ⟨fun c => OnIdeal.out m c, ?_, ?_⟩
  · exact (θ_run Cert.KernelIdeal.defs _ _).mono
      (fun _ h c => ⟨(h.1 c).2.2.2.2.2, (h.1 c).1, (h.1 c).2.1, (h.1 c).2.2.1, (h.1 c).2.2.2.1, (h.1 c).2.2.2.2.1⟩)
      (OnIdeal.run_main (F := Ideal) m ρ (idw_ideal m hpre))
  · refine (θ_run Cert.ReferenceIdeal.defs _ _).mono (fun r h c => ⟨(h c).1.trans ?_, (h c).2⟩) (Cert.ReferenceIdeal.Value.run (F := Ideal) m' ρ')
    have e := hagree c
    rw [e.1, e.2.2.1, e.2.2.2.1, e.2.2.2.2]
    exact (Value.out_eq m c).symm

theorem claim : Cert.Claim :=
  ⟨Cert.Kernel.Gen.facts, Cert.KernelIdeal.Gen.facts, Cert.ReferenceIdeal.Gen.facts, Cert.Pre_ids_in_range.Gen.facts,
    frame_bits, frame_ideal, frame_reference, frame_reference_pre, trivial, algebraic⟩

end Cert.Proof

end
